-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x8x32x32x32 : Shape := ⟨6, ![2, 3, 8, 32, 32, 32]⟩
abbrev S1536x32x32 : Shape := ⟨3, ![1536, 32, 32]⟩
abbrev S32x32x1536 : Shape := ⟨3, ![32, 32, 1536]⟩
abbrev S32x32x128 : Shape := ⟨3, ![32, 32, 128]⟩
abbrev S32x32x1 : Shape := ⟨3, ![32, 32, 1]⟩
abbrev S1x32x128 : Shape := ⟨3, ![1, 32, 128]⟩
abbrev S32x1x128 : Shape := ⟨3, ![32, 1, 128]⟩
abbrev S1x32x32x128 : Shape := ⟨4, ![1, 32, 32, 128]⟩
abbrev S1 : Shape := ⟨1, ![1]⟩
abbrev S1x1x1x1 : Shape := ⟨4, ![1, 1, 1, 1]⟩
abbrev S31x32x128 : Shape := ⟨3, ![31, 32, 128]⟩
abbrev S32x31x128 : Shape := ⟨3, ![32, 31, 128]⟩
abbrev S1536x1024 : Shape := ⟨2, ![1536, 1024]⟩
abbrev S48x1x128 : Shape := ⟨3, ![48, 1, 128]⟩
abbrev S32x1024 : Shape := ⟨2, ![32, 1024]⟩
abbrev S1x1x128 : Shape := ⟨3, ![1, 1, 128]⟩
abbrev S32 : Shape := ⟨1, ![32]⟩
abbrev S32x1 : Shape := ⟨2, ![32, 1]⟩
abbrev S1x1024 : Shape := ⟨2, ![1, 1024]⟩
abbrev S128x1024 : Shape := ⟨2, ![128, 1024]⟩
abbrev S128x128 : Shape := ⟨2, ![128, 128]⟩
abbrev S32x32 : Shape := ⟨2, ![32, 32]⟩
abbrev S1x32x32 : Shape := ⟨3, ![1, 32, 32]⟩
abbrev S1x1x1 : Shape := ⟨3, ![1, 1, 1]⟩
abbrev S1x1 : Shape := ⟨2, ![1, 1]⟩
abbrev S48x1x1 : Shape := ⟨3, ![48, 1, 1]⟩
abbrev S48 : Shape := ⟨1, ![48]⟩
abbrev S2x3x8 : Shape := ⟨3, ![2, 3, 8]⟩

abbrev nBuf : Space → Nat
  | .hbm => 10
  | .vmem => 8
  | .smem => 0
  | _ => 0

abbrev bufTy : (tb : Table) → Fin (tcTables nBuf tb) → BufTy
  | .hbm, ⟨0, _⟩ => ⟨S2x3x8x32x32x32, .f32⟩
  | .hbm, ⟨1, _⟩ => ⟨S1536x32x32, .f32⟩
  | .hbm, ⟨2, _⟩ => ⟨S32x32x1536, .f32⟩
  | .hbm, ⟨3, _⟩ => ⟨S32x32x1536, .i32⟩
  | .hbm, ⟨4, _⟩ => ⟨S1536x32x32, .i32⟩
  | .hbm, ⟨5, _⟩ => ⟨S1536x1024, .i32⟩
  | .hbm, ⟨6, _⟩ => ⟨S48x1x128, .f32⟩
  | .hbm, ⟨7, _⟩ => ⟨S48x1x1, .f32⟩
  | .hbm, ⟨8, _⟩ => ⟨S48, .f32⟩
  | .hbm, ⟨9, _⟩ => ⟨S2x3x8, .f32⟩
  | .local _ .vmem, ⟨0, _⟩ => ⟨S32x32x128, .f32⟩
  | .local _ .vmem, ⟨1, _⟩ => ⟨S32x32x128, .f32⟩
  | .local _ .vmem, ⟨2, _⟩ => ⟨S32x32x128, .i32⟩
  | .local _ .vmem, ⟨3, _⟩ => ⟨S32x32x128, .i32⟩
  | .local _ .vmem, ⟨4, _⟩ => ⟨S32x1024, .i32⟩
  | .local _ .vmem, ⟨5, _⟩ => ⟨S32x1024, .i32⟩
  | .local _ .vmem, ⟨6, _⟩ => ⟨S1x1x128, .f32⟩
  | .local _ .vmem, ⟨7, _⟩ => ⟨S1x1x128, .f32⟩
  | _, _ => ⟨S2x3x8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S2x3x8x32x32x32 : Shape := ⟨6, ![2, 3, 8, 32, 32, 32]⟩
abbrev S_ : Shape := ⟨0, ![]⟩
abbrev S1536x32x32 : Shape := ⟨3, ![1536, 32, 32]⟩
abbrev S1572864 : Shape := ⟨1, ![1572864]⟩
abbrev S1536x31x32 : Shape := ⟨3, ![1536, 31, 32]⟩
abbrev S1536x32x31 : Shape := ⟨3, ![1536, 32, 31]⟩
abbrev S1536x1024 : Shape := ⟨2, ![1536, 1024]⟩
abbrev S1536 : Shape := ⟨1, ![1536]⟩
abbrev S1536x1 : Shape := ⟨2, ![1536, 1]⟩
abbrev S1025 : Shape := ⟨1, ![1025]⟩
abbrev S1536x1024x1 : Shape := ⟨3, ![1536, 1024, 1]⟩
abbrev S1x1x1025 : Shape := ⟨3, ![1, 1, 1025]⟩
abbrev S1536x1024x1025 : Shape := ⟨3, ![1536, 1024, 1025]⟩
abbrev S1536x1025 : Shape := ⟨2, ![1536, 1025]⟩
abbrev S2x3x8x32 : Shape := ⟨4, ![2, 3, 8, 32]⟩
abbrev S2x3x8 : Shape := ⟨3, ![2, 3, 8]⟩

abbrev nBuf : Space → Nat
  | .hbm => 110
  | .vmem => 0
  | .smem => 0
  | _ => 0

abbrev bufTy : (tb : Table) → Fin (tcTables nBuf tb) → BufTy
  | .hbm, ⟨0, _⟩ => ⟨S2x3x8x32x32x32, .f32⟩
  | .hbm, ⟨1, _⟩ => ⟨S_, .f32⟩
  | .hbm, ⟨2, _⟩ => ⟨S2x3x8x32x32x32, .f32⟩
  | .hbm, ⟨3, _⟩ => ⟨S2x3x8x32x32x32, .i1⟩
  | .hbm, ⟨4, _⟩ => ⟨S1536x32x32, .i1⟩
  | .hbm, ⟨5, _⟩ => ⟨S1572864, .i32⟩
  | .hbm, ⟨6, _⟩ => ⟨S_, .i32⟩
  | .hbm, ⟨7, _⟩ => ⟨S1572864, .i32⟩
  | .hbm, ⟨8, _⟩ => ⟨S1572864, .i32⟩
  | .hbm, ⟨9, _⟩ => ⟨S1536x32x32, .i32⟩
  | .hbm, ⟨10, _⟩ => ⟨S_, .i32⟩
  | .hbm, ⟨11, _⟩ => ⟨S_, .i32⟩
  | .hbm, ⟨12, _⟩ => ⟨S1536x32x32, .i32⟩
  | .hbm, ⟨13, _⟩ => ⟨S1536x32x32, .i32⟩
  | .hbm, ⟨14, _⟩ => ⟨S_, .i32⟩
  | .hbm, ⟨15, _⟩ => ⟨S1536x32x32, .i1⟩
  | .hbm, ⟨16, _⟩ => ⟨S_, .i32⟩
  | .hbm, ⟨17, _⟩ => ⟨S1536x32x32, .i32⟩
  | .hbm, ⟨18, _⟩ => ⟨S_, .i32⟩
  | .hbm, ⟨19, _⟩ => ⟨S_, .i1⟩
  | .hbm, ⟨20, _⟩ => ⟨S1536x31x32, .i32⟩
  | .hbm, ⟨21, _⟩ => ⟨S_, .i32⟩
  | .hbm, ⟨22, _⟩ => ⟨S_, .i32⟩
  | .hbm, ⟨23, _⟩ => ⟨S1536x32x32, .i32⟩
  | .hbm, ⟨24, _⟩ => ⟨S1536x31x32, .i32⟩
  | .hbm, ⟨25, _⟩ => ⟨S_, .i32⟩
  | .hbm, ⟨26, _⟩ => ⟨S_, .i32⟩
  | .hbm, ⟨27, _⟩ => ⟨S1536x32x32, .i32⟩
  | .hbm, ⟨28, _⟩ => ⟨S1536x32x31, .i32⟩
  | .hbm, ⟨29, _⟩ => ⟨S_, .i32⟩
  | .hbm, ⟨30, _⟩ => ⟨S_, .i32⟩
  | .hbm, ⟨31, _⟩ => ⟨S1536x32x32, .i32⟩
  | .hbm, ⟨32, _⟩ => ⟨S1536x32x31, .i32⟩
  | .hbm, ⟨33, _⟩ => ⟨S_, .i32⟩
  | .hbm, ⟨34, _⟩ => ⟨S_, .i32⟩
  | .hbm, ⟨35, _⟩ => ⟨S1536x32x32, .i32⟩
  | .hbm, ⟨36, _⟩ => ⟨S_, .i32⟩
  | .hbm, ⟨37, _⟩ => ⟨S1536x32x32, .i32⟩
  | .hbm, ⟨38, _⟩ => ⟨S1536x32x32, .i1⟩
  | .hbm, ⟨39, _⟩ => ⟨S1536x32x32, .i1⟩
  | .hbm, ⟨40, _⟩ => ⟨S1536x32x32, .i32⟩
  | .hbm, ⟨41, _⟩ => ⟨S1536x32x32, .i32⟩
  | .hbm, ⟨42, _⟩ => ⟨S_, .i32⟩
  | .hbm, ⟨43, _⟩ => ⟨S1536x32x32, .i32⟩
  | .hbm, ⟨44, _⟩ => ⟨S1536x32x32, .i1⟩
  | .hbm, ⟨45, _⟩ => ⟨S1536x32x32, .i1⟩
  | .hbm, ⟨46, _⟩ => ⟨S1536x32x32, .i32⟩
  | .hbm, ⟨47, _⟩ => ⟨S1536x32x32, .i32⟩
  | .hbm, ⟨48, _⟩ => ⟨S_, .i32⟩
  | .hbm, ⟨49, _⟩ => ⟨S1536x32x32, .i32⟩
  | .hbm, ⟨50, _⟩ => ⟨S1536x32x32, .i1⟩
  | .hbm, ⟨51, _⟩ => ⟨S1536x32x32, .i1⟩
  | .hbm, ⟨52, _⟩ => ⟨S1536x32x32, .i32⟩
  | .hbm, ⟨53, _⟩ => ⟨S1536x32x32, .i32⟩
  | .hbm, ⟨54, _⟩ => ⟨S_, .i32⟩
  | .hbm, ⟨55, _⟩ => ⟨S1536x32x32, .i32⟩
  | .hbm, ⟨56, _⟩ => ⟨S1536x32x32, .i1⟩
  | .hbm, ⟨57, _⟩ => ⟨S1536x32x32, .i1⟩
  | .hbm, ⟨58, _⟩ => ⟨S1536x32x32, .i32⟩
  | .hbm, ⟨59, _⟩ => ⟨S1536x32x32, .i32⟩
  | .hbm, ⟨60, _⟩ => ⟨S_, .i32⟩
  | .hbm, ⟨61, _⟩ => ⟨S_, .i32⟩
  | .hbm, ⟨62, _⟩ => ⟨S1536x1024, .i32⟩
  | .hbm, ⟨63, _⟩ => ⟨S1536, .i32⟩
  | .hbm, ⟨64, _⟩ => ⟨S_, .i32⟩
  | .hbm, ⟨65, _⟩ => ⟨S1536, .i32⟩
  | .hbm, ⟨66, _⟩ => ⟨S1536, .i32⟩
  | .hbm, ⟨67, _⟩ => ⟨S1536x1, .i32⟩
  | .hbm, ⟨68, _⟩ => ⟨S_, .i32⟩
  | .hbm, ⟨69, _⟩ => ⟨S1536x1024, .i32⟩
  | .hbm, ⟨70, _⟩ => ⟨S1536x1024, .i1⟩
  | .hbm, ⟨71, _⟩ => ⟨S1536x1024, .i32⟩
  | .hbm, ⟨72, _⟩ => ⟨S1536x1024, .i32⟩
  | .hbm, ⟨73, _⟩ => ⟨S_, .i32⟩
  | .hbm, ⟨74, _⟩ => ⟨S_, .i32⟩
  | .hbm, ⟨75, _⟩ => ⟨S1536x1024, .i32⟩
  | .hbm, ⟨76, _⟩ => ⟨S1536x1024, .i32⟩
  | .hbm, ⟨77, _⟩ => ⟨S1025, .i32⟩
  | .hbm, ⟨78, _⟩ => ⟨S1536x1024x1, .i32⟩
  | .hbm, ⟨79, _⟩ => ⟨S1x1x1025, .i32⟩
  | .hbm, ⟨80, _⟩ => ⟨S1536x1024x1025, .i32⟩
  | .hbm, ⟨81, _⟩ => ⟨S1536x1024x1025, .i32⟩
  | .hbm, ⟨82, _⟩ => ⟨S1536x1024x1025, .i1⟩
  | .hbm, ⟨83, _⟩ => ⟨S1536x1024x1025, .i32⟩
  | .hbm, ⟨84, _⟩ => ⟨S_, .i32⟩
  | .hbm, ⟨85, _⟩ => ⟨S1536x1025, .i32⟩
  | .hbm, ⟨86, _⟩ => ⟨S_, .i32⟩
  | .hbm, ⟨87, _⟩ => ⟨S1536, .i32⟩
  | .hbm, ⟨88, _⟩ => ⟨S2x3x8x32, .i32⟩
  | .hbm, ⟨89, _⟩ => ⟨S_, .i32⟩
  | .hbm, ⟨90, _⟩ => ⟨S2x3x8, .i32⟩
  | .hbm, ⟨91, _⟩ => ⟨S_, .i32⟩
  | .hbm, ⟨92, _⟩ => ⟨S_, .i32⟩
  | .hbm, ⟨93, _⟩ => ⟨S2x3x8, .i32⟩
  | .hbm, ⟨94, _⟩ => ⟨S2x3x8, .i32⟩
  | .hbm, ⟨95, _⟩ => ⟨S2x3x8, .i32⟩
  | .hbm, ⟨96, _⟩ => ⟨S_, .i32⟩
  | .hbm, ⟨97, _⟩ => ⟨S2x3x8, .i32⟩
  | .hbm, ⟨98, _⟩ => ⟨S2x3x8, .i1⟩
  | .hbm, ⟨99, _⟩ => ⟨S2x3x8, .i32⟩
  | .hbm, ⟨100, _⟩ => ⟨S2x3x8, .i32⟩
  | .hbm, ⟨101, _⟩ => ⟨S_, .i32⟩
  | .hbm, ⟨102, _⟩ => ⟨S2x3x8, .i32⟩
  | .hbm, ⟨103, _⟩ => ⟨S2x3x8, .i1⟩
  | .hbm, ⟨104, _⟩ => ⟨S2x3x8, .i1⟩
  | .hbm, ⟨105, _⟩ => ⟨S_, .i32⟩
  | .hbm, ⟨106, _⟩ => ⟨S2x3x8, .i32⟩
  | .hbm, ⟨107, _⟩ => ⟨S2x3x8, .i32⟩
  | .hbm, ⟨108, _⟩ => ⟨S2x3x8, .i32⟩
  | .hbm, ⟨109, _⟩ => ⟨S2x3x8, .f32⟩
  | _, _ => ⟨S2x3x8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_c_1 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_while0c_c_11 : Ref sig .tc := ⟨.hbm, 18, rfl⟩
abbrev main_while0c_v32 : Ref sig .tc := ⟨.hbm, 19, rfl⟩
abbrev main_while0b_v32 : Ref sig .tc := ⟨.hbm, 20, rfl⟩
abbrev main_while0b_c_11 : Ref sig .tc := ⟨.hbm, 21, rfl⟩
abbrev main_while0b_call1_v0 : Ref sig .tc := ⟨.hbm, 22, rfl⟩
abbrev main_while0b_v33 : Ref sig .tc := ⟨.hbm, 23, rfl⟩
abbrev main_while0b_v34 : Ref sig .tc := ⟨.hbm, 24, rfl⟩
abbrev main_while0b_c_12 : Ref sig .tc := ⟨.hbm, 25, rfl⟩
abbrev main_while0b_call2_v0 : Ref sig .tc := ⟨.hbm, 26, rfl⟩
abbrev main_while0b_v35 : Ref sig .tc := ⟨.hbm, 27, rfl⟩
abbrev main_while0b_v36 : Ref sig .tc := ⟨.hbm, 28, rfl⟩
abbrev main_while0b_c_13 : Ref sig .tc := ⟨.hbm, 29, rfl⟩
abbrev main_while0b_call3_v0 : Ref sig .tc := ⟨.hbm, 30, rfl⟩
abbrev main_while0b_v37 : Ref sig .tc := ⟨.hbm, 31, rfl⟩
abbrev main_while0b_v38 : Ref sig .tc := ⟨.hbm, 32, rfl⟩
abbrev main_while0b_c_14 : Ref sig .tc := ⟨.hbm, 33, rfl⟩
abbrev main_while0b_call4_v0 : Ref sig .tc := ⟨.hbm, 34, rfl⟩
abbrev main_while0b_v39 : Ref sig .tc := ⟨.hbm, 35, rfl⟩
abbrev main_while0b_c_15 : Ref sig .tc := ⟨.hbm, 36, rfl⟩
abbrev main_while0b_v40 : Ref sig .tc := ⟨.hbm, 37, rfl⟩
abbrev main_while0b_v41 : Ref sig .tc := ⟨.hbm, 38, rfl⟩
abbrev main_while0b_v42 : Ref sig .tc := ⟨.hbm, 39, rfl⟩
abbrev main_while0b_v43 : Ref sig .tc := ⟨.hbm, 40, rfl⟩
abbrev main_while0b_v44 : Ref sig .tc := ⟨.hbm, 41, rfl⟩
abbrev main_while0b_c_16 : Ref sig .tc := ⟨.hbm, 42, rfl⟩
abbrev main_while0b_v45 : Ref sig .tc := ⟨.hbm, 43, rfl⟩
abbrev main_while0b_v46 : Ref sig .tc := ⟨.hbm, 44, rfl⟩
abbrev main_while0b_v47 : Ref sig .tc := ⟨.hbm, 45, rfl⟩
abbrev main_while0b_v48 : Ref sig .tc := ⟨.hbm, 46, rfl⟩
abbrev main_while0b_v49 : Ref sig .tc := ⟨.hbm, 47, rfl⟩
abbrev main_while0b_c_17 : Ref sig .tc := ⟨.hbm, 48, rfl⟩
abbrev main_while0b_v50 : Ref sig .tc := ⟨.hbm, 49, rfl⟩
abbrev main_while0b_v51 : Ref sig .tc := ⟨.hbm, 50, rfl⟩
abbrev main_while0b_v52 : Ref sig .tc := ⟨.hbm, 51, rfl⟩
abbrev main_while0b_v53 : Ref sig .tc := ⟨.hbm, 52, rfl⟩
abbrev main_while0b_v54 : Ref sig .tc := ⟨.hbm, 53, rfl⟩
abbrev main_while0b_c_18 : Ref sig .tc := ⟨.hbm, 54, rfl⟩
abbrev main_while0b_v55 : Ref sig .tc := ⟨.hbm, 55, rfl⟩
abbrev main_while0b_v56 : Ref sig .tc := ⟨.hbm, 56, rfl⟩
abbrev main_while0b_v57 : Ref sig .tc := ⟨.hbm, 57, rfl⟩
abbrev main_while0b_v58 : Ref sig .tc := ⟨.hbm, 58, rfl⟩
abbrev main_while0b_v59 : Ref sig .tc := ⟨.hbm, 59, rfl⟩
abbrev main_while0b_c_19 : Ref sig .tc := ⟨.hbm, 60, rfl⟩
abbrev main_while0b_v60 : Ref sig .tc := ⟨.hbm, 61, rfl⟩
abbrev main_v9 : Ref sig .tc := ⟨.hbm, 62, rfl⟩
abbrev main_v10 : Ref sig .tc := ⟨.hbm, 63, rfl⟩
abbrev main_c_2 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_c_3 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_c_4 : Ref sig .tc := ⟨.hbm, 73, rfl⟩
abbrev main_call9_v0 : Ref sig .tc := ⟨.hbm, 74, rfl⟩
abbrev main_call9_v1 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_c_5 : Ref sig .tc := ⟨.hbm, 84, rfl⟩
abbrev main_v26 : Ref sig .tc := ⟨.hbm, 85, rfl⟩
abbrev main_c_6 : Ref sig .tc := ⟨.hbm, 86, rfl⟩
abbrev main_v27 : Ref sig .tc := ⟨.hbm, 87, rfl⟩
abbrev main_v28 : Ref sig .tc := ⟨.hbm, 88, rfl⟩
abbrev main_c_7 : Ref sig .tc := ⟨.hbm, 89, rfl⟩
abbrev main_v29 : Ref sig .tc := ⟨.hbm, 90, rfl⟩
abbrev main_c_8 : Ref sig .tc := ⟨.hbm, 91, rfl⟩
abbrev main_call10_v0 : Ref sig .tc := ⟨.hbm, 92, rfl⟩
abbrev main_call10_v1 : Ref sig .tc := ⟨.hbm, 93, rfl⟩
abbrev main_call10_v2 : Ref sig .tc := ⟨.hbm, 94, rfl⟩
abbrev main_call10_v3 : Ref sig .tc := ⟨.hbm, 95, rfl⟩
abbrev main_call10_v4 : Ref sig .tc := ⟨.hbm, 96, rfl⟩
abbrev main_call10_v5 : Ref sig .tc := ⟨.hbm, 97, rfl⟩
abbrev main_call10_v6 : Ref sig .tc := ⟨.hbm, 98, rfl⟩
abbrev main_call10_v7 : Ref sig .tc := ⟨.hbm, 99, rfl⟩
abbrev main_call10_v8 : Ref sig .tc := ⟨.hbm, 100, rfl⟩
abbrev main_call10_c : Ref sig .tc := ⟨.hbm, 101, rfl⟩
abbrev main_call10_v9 : Ref sig .tc := ⟨.hbm, 102, rfl⟩
abbrev main_call10_v10 : Ref sig .tc := ⟨.hbm, 103, rfl⟩
abbrev main_call10_v11 : Ref sig .tc := ⟨.hbm, 104, rfl⟩
abbrev main_call10_c_0 : Ref sig .tc := ⟨.hbm, 105, rfl⟩
abbrev main_call10_v12 : Ref sig .tc := ⟨.hbm, 106, rfl⟩
abbrev main_call10_v13 : Ref sig .tc := ⟨.hbm, 107, rfl⟩
abbrev main_v30 : Ref sig .tc := ⟨.hbm, 108, rfl⟩
abbrev main_v31 : Ref sig .tc := ⟨.hbm, 109, rfl⟩

abbrev nD : Nat := 1
abbrev τ : Topo := Topo.v7x

variable {F : FTy → Type} [FloatOps F]

abbrev main_while0_count : Scf.Loop 32 := ⟨0#32, 128#32, 1#32⟩
-- ==== Proof.KI.Values.lean ====
/-
  What each of the two kernel bodies of `Cert.KernelIdeal` leaves in its result block, as a plain function of its input
  block. Everything here is a definition, for any float values.

  * `propOut v0` — the propagation kernel: the labels its while loop returns, started from the initial labels of the
    block `v0`. The loop is spelled as a recursion on the number of trips still allowed (`loopOut`), one trip being eight
    propagation steps (`tripOut`).
  * `histOut x` — the histogram kernel: the mean, rounded down, of the 32 rows' modes (`mode`), spread over one row.
-/
module

public import proofs.«01_k».proof.Proof.Gen.KernelIdeal
public import proofs.«01_k».proof.Proof.Gen.KernelIdeal.Skeleton

@[expose] public section

set_option maxRecDepth 16384

noncomputable section

namespace Cert.Proof.KI

open Cert.KernelIdeal Cert.KernelIdeal.Gen
open Idealize.ShloMosaic

variable {F : FTy → Type} [FloatOps F]

/-! ## The propagation kernel -/

/-- The sum of a block of labels, as a word. -/
def sumOf (t : IVec S32x32x128 32) : BitVec 32 :=
  extractAt ![0, 0, 0, 0]
    (shapeCast S1x1x1x1
      (multiReductionI .add [1, 2, 3] S1 (shapeCast S1x32x32x128 t shapeCasts_S32x32x128_S1x32x32x128) 0#32 reduces_S1x32x32x128_S1 rfl)
      shapeCasts_S1_S1x1x1x1) inpos_S1x1x1x1_p0_0_0_0

/-- One trip of the loop: eight propagation steps. -/
def tripOut (v14 : IVec S1x32x128 32) (v15 : IVec S32x1x128 32) (v4 t : IVec S32x32x128 32) : IVec S32x32x128 32 :=
  k0_pay6 v14 v15 v4 (k0_pay8 v14 v15 v4 t) (k0_pay9 v14 v15 v4 t) (k0_pay10 v14 v15 v4 t) (k0_pay11 v14 v15 v4 t) (k0_pay12 v14 v15 v4 t)

/-- The labels the loop returns with at most `k` trips to go, from labels `t` whose sum is `s`, `g` saying whether the
    last trip changed the sum. -/
def loopOut (v14 : IVec S1x32x128 32) (v15 : IVec S32x1x128 32) (v4 : IVec S32x32x128 32) :
    ℕ → IVec S32x32x128 32 → BitVec 32 → BitVec 1 → IVec S32x32x128 32
  | 0, t, _, _ => t
  | k + 1, t, s, g =>
    if g = 1#1 then loopOut v14 v15 v4 k (tripOut v14 v15 v4 t) (sumOf (tripOut v14 v15 v4 t)) (Scalar.cmpi .ne (sumOf (tripOut v14 v15 v4 t)) s)
    else t

/-- What the propagation kernel stores for the block `v0`. -/
def propOut (v0 : Vec F S32x32x128 .f32) : IVec S32x32x128 32 :=
  loopOut k0_pay3 k0_pay4 (k0_pay1 v0) 16 (k0_pay2 v0) (sumOf (k0_pay2 v0)) 1#1

/-! ## The histogram kernel -/

/-- The slices the kernel takes: one row of a block, one diagonal square of a product, one background count. -/
theorem slicesRow (p : Fin 32) : S32x1024.Slices ![p.val, 0] S1x1024 := by revert p; decide
theorem slicesSq (s : Fin 4) : S128x128.Slices ![32 * s.val, 32 * s.val] S32x32 := by revert s; decide
theorem slicesOne (p : Fin 32) : S32x1.Slices ![p.val, 0] S1x1 := by revert p; decide

/-- The high and low five bits of `1024` minus each label. -/
def hiOf (x : Vec F S32x1024 .i32) : IVec S32x1024 32 := k1_pay4 x
def loOf (x : Vec F S32x1024 .i32) : IVec S32x1024 32 := k1_pay5 x
/-- How many labels of each row are zero. -/
def bgOf (x : Vec F S32x1024 .i32) : IVec S32x1 32 := k1_pay6 x
/-- The digits `0 … 31` down a column. -/
def digits : IVec S32x1 32 := iota .tc S32x1 32 [0] iota_S32x1_d0_w32

/-- Row `p` of `v`, repeated on 32 rows. -/
def rowB (v : IVec S32x1024 32) (p : Fin 32) : IVec S32x1024 32 :=
  broadcastTo S32x1024 (extractStridedSlice S1x1024 ![p.val, 0] v (slicesRow p)) broadcasts_S1x1024_S32x1024
/-- Where row `p` of `v` holds each digit. -/
def eqB (v : IVec S32x1024 32) (p : Fin 32) : IVec S32x1024 1 :=
  cmpi .eq (rowB v p) (broadcastTo S32x1024 digits broadcasts_S32x1_S32x1024)
/-- The one-hot rows of row `p` of `v`. -/
def hot (v : IVec S32x1024 32) (p : Fin 32) : FVec F S32x1024 .f32 := sitofp .f32 (extui 32 (eqB v p) natLt_1_32)

/-- The rows of group `q`, by their place in it. -/
abbrev rowOf (q : Fin 8) (s : Fin 4) : Fin 32 := ⟨4 * q.val + s.val, by omega⟩

/-- The four one-hot blocks of group `q`, stacked. -/
def stack (v : IVec S32x1024 32) (q : Fin 8) : FVec F S128x1024 .f32 :=
  concatenate S128x1024 0 [⟨S32x1024, hot v (rowOf q 0)⟩, ⟨S32x1024, hot v (rowOf q 1)⟩, ⟨S32x1024, hot v (rowOf q 2)⟩, ⟨S32x1024, hot v (rowOf q 3)⟩]
    concatenates_S32x1024_S32x1024_S32x1024_S32x1024_S128x1024_d0
/-- The product of group `q`: on its diagonal squares, the four rows' histograms. -/
def prodOf (x : Vec F S32x1024 .i32) (q : Fin 8) : FVec F S128x128 .f32 :=
  matmul dot_S128x1024_S128x1024_S128x128_1_1_0_0_n_n none (stack (hiOf x) q) (stack (loOf x) q) (constant S128x128 .f32 0x00000000#32)
/-- A diagonal square of the product, its maximum, that maximum as a number. -/
def sqOf (x : Vec F S32x1024 .i32) (q : Fin 8) (s : Fin 4) : FVec F S1x32x32 .f32 :=
  shapeCast S1x32x32 (extractStridedSlice S32x32 ![32 * s.val, 32 * s.val] (prodOf x q) (slicesSq s)) shapeCasts_S32x32_S1x32x32
def maxOf (x : Vec F S32x1024 .i32) (q : Fin 8) (s : Fin 4) : FVec F S1 .f32 :=
  multiReduction .maximumf [1, 2] S1 (sqOf x q s) 0xFF800000#32 reduces_S1x32x32_S1 (.inl rfl) rfl
def topOf (x : Vec F S32x1024 .i32) (q : Fin 8) (s : Fin 4) : F .f32 :=
  extractAt ![0, 0, 0] (shapeCast S1x1x1 (maxOf x q s) shapeCasts_S1_S1x1x1) inpos_S1x1x1_p0_0_0
/-- The background count of a row of the group. -/
def backOf (x : Vec F S32x1024 .i32) (q : Fin 8) (s : Fin 4) : IVec S1x1 32 :=
  extractStridedSlice S1x1 ![(rowOf q s).val, 0] (bgOf x) (slicesOne (rowOf q s))
/-- The mode of a row of the group: the largest of its histogram and its background count. -/
def mode (x : Vec F S32x1024 .i32) (q : Fin 8) (s : Fin 4) : BitVec 32 :=
  Scalar.maxsi (Scalar.fptosi 32 (topOf x q s)) (extractAt ![0, 0] (backOf x q s) inpos_S1x1_p0_0)

/-- The sum of the first `q + 1` groups' modes, in the printed order. -/
def addGroup (x : Vec F S32x1024 .i32) (q : Fin 8) (a : BitVec 32) : BitVec 32 :=
  Scalar.addi (Scalar.addi (Scalar.addi (Scalar.addi a (mode x q 0)) (mode x q 1)) (mode x q 2)) (mode x q 3)
def firstGroup (x : Vec F S32x1024 .i32) : BitVec 32 :=
  Scalar.addi (Scalar.addi (Scalar.addi (mode x 0 0) (mode x 0 1)) (mode x 0 2)) (mode x 0 3)
/-- The sum up to row 22, the words the last two additions start from. -/
def sum22 (x : Vec F S32x1024 .i32) : BitVec 32 :=
  Scalar.addi (Scalar.addi (Scalar.addi
    (addGroup x 4 (addGroup x 3 (addGroup x 2 (addGroup x 1 (firstGroup x))))) (mode x 5 0)) (mode x 5 1)) (mode x 5 2)

/-- What the histogram kernel stores for the block `x`. -/
def histOut (x : Vec F S32x1024 .i32) : FVec F S1x1x128 .f32 :=
  k1_pay1 (mode x 5 3) (mode x 6 0) (mode x 6 1) (mode x 6 2) (mode x 6 3) (mode x 7 0) (mode x 7 1) (mode x 7 2) (mode x 7 3) (sum22 x)

end Cert.Proof.KI

end
-- ==== Proof.KI.Common.lean ====
/-
  Shared by the two kernel bodies and the launch of `Cert.KernelIdeal`: the resource algebra, and the variants its one
  loop is run under.
-/
module

public import proofs.«01_k».proof.Proof.KI.Values
public import proofs.«01_k».proof.Proof.Gen.KernelIdeal.Points
public import proofs.«01_k».proof.Proof.Gen.KernelIdeal.Launch
public import proofs.«01_k».proof.Proof.Gen.KernelIdeal.Regions
public import Idealize.ShloMosaic.Lib.Pipeline.FrameBody
public import Idealize.ShloMosaic.Lib.Pipeline.RegionArraysS
public import Idealize.ShloMosaic.Lib.Pipeline.Sound
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe
open Idealize.SL Idealize.SL.RA Idealize.SL.BI
open Idealize.SL.Sem
open Idealize.ShloMosaic.Rounds

/-- The ghost algebra: the rounds library's over the machine's cells, duties named by `Unit`. -/
abbrev UR (nD : Nat) (τ : Topo) : Type := URounds (GSem nD τ sig) Unit

variable {F : FTy → Type} [FloatOps F]

local notation "𝕄" => MT nD τ sig Unit (Elt F) ℕ (UR nD τ) ℕ

/-- Its embedding into the machine's algebra. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- Calls are bounded by a natural number: the trips still allowed to the loop. -/
abbrev 𝒱₀ : Variants := Variants.nat

/-- A rectangle over a whole block places every index at itself. -/
theorem unit_idx {S : Shape} (off : Fin S.rank → ℕ) (h0 : ∀ a, off a = 0) (inb : ∀ a, off a + S.size a ≤ S.size a) (y : S.Idx) :
    (Rect.unit (s := S) off S.size inb).toLoadRect.idx y = y := by
  funext a
  refine Fin.ext ?_
  show off a + 1 * (y a).val = (y a).val
  rw [h0 a]; omega

/-- Loading a whole block reads its contents. -/
theorem read_load {sp : Space} {S : Shape} {e : EltTy} (M : Memref sig .tc sp S e) (off : Fin S.rank → ℕ) (h0 : ∀ a, off a = 0)
    (inb : ∀ a, off a + S.size a ≤ S.size a) (f : M.view.ty.Contents (Elt F)) :
    M.view.readAt (Elt F) (Rect.unit (s := S) off S.size inb).toLoadRect f = M.view.read (Elt F) f := by
  funext y
  rw [View.readAt_apply, unit_idx off h0 inb y]

/-- Storing a whole block leaves, read back, what was stored. -/
theorem read_store {sp : Space} {S : Shape} {e : EltTy} (M : Memref sig .tc sp S e) (off : Fin S.rank → ℕ) (h0 : ∀ a, off a = 0)
    (inb : ∀ a, off a + S.size a ≤ S.size a) (w : S.Idx → Elt F e) (f : M.view.ty.Contents (Elt F)) :
    M.view.read (Elt F) ((M.access (Rect.unit (s := S) off S.size inb) : View sig .tc _ _ _).write (Elt F) f w Finset.univ) = w := by
  funext y
  exact View.read_writes_cons_hit M.view f (Rect.unit (s := S) off S.size inb) w [] y y (unit_idx off h0 inb y)

end Cert.Proof.KI

end
-- ==== Proof.KI.Prop.lean ====
/-
  The propagation kernel's body. Its while loop is called through a label; the label is answered by a specification at
  "`k` trips still allowed" (`spec`): it returns values whose first is `loopOut … k …`. The specification is met by
  induction on `k` (`spec_le`): the counter is `128 - 8 k`, so with no trip left its test fails. The body's triple
  (`prop_kernel`) reads the block, calls the label with sixteen trips allowed and stores what it returned.
-/
module

public import proofs.«01_k».proof.Proof.KI.Common

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR nD τ) ℕ

/-! ## The loop's counter -/

/-- The counter with `k` trips to go. -/
abbrev ctr (k : ℕ) : BitVec 32 := BitVec.ofNat 32 (128 - 8 * k)

theorem ctr_test : ∀ k : Fin 17, Scalar.cmpi .slt (ctr k.val) 128#32 = if k.val = 0 then 0#1 else 1#1 := by decide
theorem ctr_step : ∀ k : Fin 16, Scalar.addi (ctr (k.val + 1)) 8#32 = ctr k.val := by decide
theorem and_one (g : BitVec 1) : Scalar.andi 1#1 g = g := by revert g; decide
theorem and_zero (g : BitVec 1) : Scalar.andi 0#1 g = 0#1 := by revert g; decide

/-! ## The loop's label -/

/-- The printed loop at one entry: either one trip and the label again, or the carried values. -/
theorem while_eq (i : grid0.Coords) (v14 : IVec S1x32x128 32) (v15 : IVec S32x1x128 32) (v4 t : IVec S32x32x128 32) (n s : BitVec 32) (g : BitVec 1) :
    cc0_while1 (F := F) i v14 v15 v4 t n s g
      = if Scalar.andi (Scalar.cmpi .slt n 128#32) g = 1#1 then
          Prog.lift (.call (2 : (Λ₀ F).Label) ⟨i, v14, v15, v4, tripOut v14 v15 v4 t, Scalar.addi n 8#32, sumOf (tripOut v14 v15 v4 t),
            Scalar.cmpi .ne (sumOf (tripOut v14 v15 v4 t)) s⟩)
        else pure (t, n, s, g) := rfl

section Label

variable (c : Dev nD) (i : grid0.Coords) (v14 : IVec S1x32x128 32) (v15 : IVec S32x1x128 32) (v4 : IVec S32x32x128 32)

/-- With `k` trips allowed from labels `t` of sum `s`: it returns values whose first is `loopOut`'s. -/
def spec (k : ℕ) (t : IVec S32x32x128 32) (s : BitVec 32) (g : BitVec 1) : sWPT 𝕄 (IVec S32x32x128 32 × BitVec 32 × BitVec 32 × BitVec 1) := do
  let r ← sWPT.arbitrary
  sWPT.assume (r.1 = loopOut v14 v15 v4 k t s g)
  pure r

theorem spec_apply (k : ℕ) (t : IVec S32x32x128 32) (s : BitVec 32) (g : BitVec 1) (K : IVec S32x32x128 32 × BitVec 32 × BitVec 32 × BitVec 1 → sProp 𝕄) :
    spec v14 v15 v4 k t s g K
      = iprop(∀ r : IVec S32x32x128 32 × BitVec 32 × BitVec 32 × BitVec 1, ⌜r.1 = loopOut v14 v15 v4 k t s g⌝ -∗ K r) := rfl

theorem spec_le (E : Set ℕ) : ∀ k, k ≤ 16 → ∀ t s g K, spec (F := F) v14 v15 v4 k t s g K
      ⊢ wp frame (wpE (defs₀ (F := F)) 𝒱₀ (c : Thread nD τ) (some k)) E
          (defs₀ (F := F) .tc 2 ⟨i, v14, v15, v4, t, ctr k, s, g⟩) K := by
  intro k
  induction k with
  | zero =>
    intro _ t s g K
    rw [spec_apply]
    show _ ⊢ wp frame (wpE (defs₀ (F := F)) 𝒱₀ (c : Thread nD τ) (some 0)) E (cc0_while1 i v14 v15 v4 t (ctr 0) s g) K
    have ht : Scalar.cmpi .slt (ctr 0) 128#32 = 0#1 := ctr_test 0
    have hn : ¬ ((0#1 : BitVec 1) = 1#1) := by decide
    rw [while_eq, ht, and_zero, if_neg hn, Prog.pure_eq_ret]
    iintro Hk
    rw [wp_ret]; imodintro
    iapply Hk
    ipureintro; rfl
  | succ k ih =>
    intro hk t s g K
    rw [spec_apply]
    show _ ⊢ wp frame (wpE (defs₀ (F := F)) 𝒱₀ (c : Thread nD τ) (some (k + 1))) E (cc0_while1 i v14 v15 v4 t (ctr (k + 1)) s g) K
    have ht : Scalar.cmpi .slt (ctr (k + 1)) 128#32 = 1#1 := ctr_test ⟨k + 1, by omega⟩
    rw [while_eq, ht, and_one, show Scalar.addi (ctr (k + 1)) 8#32 = ctr k from ctr_step ⟨k, by omega⟩]
    by_cases hg : g = 1#1
    · rw [if_pos hg]
      simp only [Prog.lift]
      iintro Hk
      iapply (wp_call_spec 𝒱₀ (c : Thread nD τ) (some (k + 1)) E
        (spec v14 v15 v4 k (tripOut v14 v15 v4 t) (sumOf (tripOut v14 v15 v4 t)) (Scalar.cmpi .ne (sumOf (tripOut v14 v15 v4 t)) s)) k
        (fun u hu => by cases hu; exact Nat.lt_succ_self k) (ih (by omega) _ _ _))
      rw [spec_apply]
      iintro %r %hr
      rw [wp_ret]; imodintro
      iapply Hk
      ipureintro
      rw [hr, loopOut, if_pos hg]
    · rw [if_neg hg, Prog.pure_eq_ret]
      iintro Hk
      rw [wp_ret]; imodintro
      iapply Hk
      ipureintro
      rw [loopOut, if_neg hg]

end Label

/-! ## The body -/

/-- The body's triple. -/
theorem prop_kernel (c : Dev nD) (i : grid0.Coords) (arg1 : Memref sig .tc .vmem S32x32x128 .f32) (harg1 : arg1.IsWhole)
    (arg2 : Memref sig .tc .vmem S32x32x128 .i32) (harg2 : arg2.IsWhole) (x : Vec F S32x32x128 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (propOut x : Vec F S32x32x128 .i32)) -∗ K ⟨⟩))
      ⊢ wp frame (wpE (defs₀ (F := F)) 𝒱₀ (c : Thread nD τ) none) Set.univ (cc0__prop_kernel i arg1 harg1 arg2 harg2) K := by
  simp only [cc0__prop_kernel_eq_skeleton]; unfold cc0__prop_kernel_skel
  simp only [Prog.lift, Prog.bind_op, Prog.bind_ret, Prog.pure_eq_ret]
  unfold owns
  iintro ⟨⟨%f1, %hf1, H1⟩, ⟨%d2, %f2, -, H2⟩, Hk⟩
  subst hf1
  iapply (wp_load 𝒱₀ (c : Thread nD τ) none Set.univ (m := arg1) (View.setOn_subset_set _ _)) $$ H1; iintro H1
  rw [read_load arg1 ![0, 0, 0] (by decide)]
  iapply (wp_call_spec 𝒱₀ (c : Thread nD τ) none Set.univ
    (spec k0_pay3 k0_pay4 (k0_pay1 (arg1.view.read (Elt F) f1)) 16 (k0_pay2 (arg1.view.read (Elt F) f1)) (sumOf (k0_pay2 (arg1.view.read (Elt F) f1))) 1#1)
    16 (fun u hu => nomatch hu) (spec_le c i _ _ _ Set.univ 16 (le_refl 16) _ _ _))
  rw [spec_apply]
  iintro %r %hr
  sl_exec
  sl_step
  iapply Hk
  isplitl [H1]
  · iexists f1; isplitr; · ipureintro; rfl
    iexact H1
  iexists _; isplitr; swap; · iexact H2
  ipureintro
  rw [hr]
  unfold propOut
  generalize loopOut k0_pay3 k0_pay4 (k0_pay1 (arg1.view.read (Elt F) f1)) 16 _ _ _ = w
  exact read_store arg2 ![0, 0, 0] (by decide) inb_S32x32x128_S32x32x128_0_0_0 w f2

end Cert.Proof.KI

end
-- ==== Proof.KI.Hist.lean ====
/-
  The histogram kernel's body: its thirteen printed parts, each shown to hand on the values `Values.lean` names, and the
  body's triple — from a staging buffer holding `x` and a result buffer at anything, the body ends with the first as it
  was and the second holding `histOut x`.
-/
module

public import proofs.«01_k».proof.Proof.KI.Common

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR nD τ) ℕ

/-! ## The printed parts -/

section Parts

variable (i : grid1.Coords) (arg1 : Memref sig .tc .vmem S32x1024 .i32) (harg1 : arg1.IsWhole)
  (arg2 : Memref sig .tc .vmem S1x1x128 .f32) (harg2 : arg2.IsWhole) (x : Vec F S32x1024 .i32)

/-- Part 1 reads the block and names its digits, its background counts and the first one-hot rows. -/
theorem part1 : k1_part1 (F := F) i arg1 harg1 arg2 harg2
    = (Prog.lift (.load arg1 (Rect.unit (s := S32x1024) ![0, 0] S32x1024.size inb_S32x1024_S32x1024_0_0).toLoadRect (View.loadsAt_vmem h_S32x1024))) >>=
      fun x : Vec F S32x1024 .i32 => pure ⟨hiOf x, loOf x, bgOf x, digits, hot (hiOf x) 0, hot (loOf x) 0, hot (hiOf x) 1, hot (loOf x) 1,
        hot (hiOf x) 2, hot (loOf x) 2, rowB (hiOf x) 3⟩ := rfl
theorem part2 : k1_part2 (F := F) i arg1 harg1 arg2 harg2 (hiOf x) (loOf x) (bgOf x) digits (hot (hiOf x) 0) (hot (loOf x) 0) (hot (hiOf x) 1) (hot (loOf x) 1) (hot (hiOf x) 2) (hot (loOf x) 2) (rowB (hiOf x) 3)
    = .ret ⟨mode x 0 0, mode x 0 1, mode x 0 2, mode x 0 3, hot (hiOf x) 4⟩ := rfl
theorem part3 : k1_part3 (F := F) i arg1 harg1 arg2 harg2 (hiOf x) (loOf x) (bgOf x) digits (hot (hiOf x) 4)
    = .ret ⟨prodOf x 1, mode x 1 0, maxOf x 1 1⟩ := rfl
theorem part4 : k1_part4 (F := F) i arg1 harg1 arg2 harg2 (hiOf x) (loOf x) (bgOf x) digits (prodOf x 1) (maxOf x 1 1)
    = .ret ⟨mode x 1 1, mode x 1 2, mode x 1 3, hot (hiOf x) 8, hot (loOf x) 8, hot (hiOf x) 9, hot (loOf x) 9, hot (hiOf x) 10, eqB (loOf x) 10⟩ := rfl
theorem part5 : k1_part5 (F := F) i arg1 harg1 arg2 harg2 (hiOf x) (loOf x) (bgOf x) digits (hot (hiOf x) 8) (hot (loOf x) 8) (hot (hiOf x) 9) (hot (loOf x) 9) (hot (hiOf x) 10) (eqB (loOf x) 10)
    = .ret ⟨mode x 2 0, mode x 2 1, mode x 2 2, mode x 2 3, rowB (hiOf x) 12⟩ := rfl
theorem part6 : k1_part6 (F := F) i arg1 harg1 arg2 harg2 (hiOf x) (loOf x) (bgOf x) digits (rowB (hiOf x) 12)
    = .ret ⟨prodOf x 3, mode x 3 0⟩ := rfl
theorem part7 : k1_part7 (F := F) i arg1 harg1 arg2 harg2 (hiOf x) (loOf x) (bgOf x) digits (prodOf x 3)
    = .ret ⟨mode x 3 1, mode x 3 2, mode x 3 3, hot (hiOf x) 16, hot (loOf x) 16, hot (hiOf x) 17, hot (loOf x) 17, hot (hiOf x) 18⟩ := rfl
theorem part8 : k1_part8 (F := F) i arg1 harg1 arg2 harg2 (hiOf x) (loOf x) (bgOf x) digits (hot (hiOf x) 16) (hot (loOf x) 16) (hot (hiOf x) 17) (hot (loOf x) 17) (hot (hiOf x) 18)
    = .ret ⟨mode x 4 0, mode x 4 1, mode x 4 2, Scalar.fptosi 32 (topOf x 4 3), backOf x 4 3⟩ := rfl
theorem part9 : k1_part9 (F := F) i arg1 harg1 arg2 harg2 (hiOf x) (loOf x) digits (Scalar.fptosi 32 (topOf x 4 3)) (backOf x 4 3)
    = .ret ⟨mode x 4 3, prodOf x 5, topOf x 5 0⟩ := rfl
theorem part10 : k1_part10 (F := F) i arg1 harg1 arg2 harg2 (hiOf x) (loOf x) (bgOf x) digits (prodOf x 5) (topOf x 5 0)
    = .ret ⟨mode x 5 0, mode x 5 1, mode x 5 2, mode x 5 3, hot (hiOf x) 24, hot (loOf x) 24, hot (hiOf x) 25, hot (loOf x) 25, rowB (hiOf x) 26⟩ := rfl
theorem part11 : k1_part11 (F := F) i arg1 harg1 arg2 harg2 (hiOf x) (loOf x) (bgOf x) digits (hot (hiOf x) 24) (hot (loOf x) 24) (hot (hiOf x) 25) (hot (loOf x) 25) (rowB (hiOf x) 26)
    = .ret ⟨mode x 6 0, mode x 6 1, mode x 6 2, maxOf x 6 3⟩ := rfl
theorem part12 : k1_part12 (F := F) i arg1 harg1 arg2 harg2 (hiOf x) (loOf x) (bgOf x) digits (maxOf x 6 3)
    = .ret ⟨mode x 6 3, prodOf x 7, sqOf x 7 0⟩ := rfl
theorem part13 : k1_part13 (F := F) i arg1 harg1 arg2 harg2 (bgOf x) (mode x 0 0) (mode x 0 1) (mode x 0 2) (mode x 0 3) (mode x 1 0) (mode x 1 1) (mode x 1 2) (mode x 1 3) (mode x 2 0) (mode x 2 1) (mode x 2 2) (mode x 2 3) (mode x 3 0) (mode x 3 1) (mode x 3 2) (mode x 3 3) (mode x 4 0) (mode x 4 1) (mode x 4 2) (mode x 4 3) (mode x 5 0) (mode x 5 1) (mode x 5 2) (prodOf x 7) (sqOf x 7 0)
    = .ret ⟨mode x 7 0, mode x 7 1, mode x 7 2, mode x 7 3, sum22 x⟩ := rfl

end Parts

/-- The body's triple. -/
theorem hist_kernel (c : Dev nD) (i : grid1.Coords) (arg1 : Memref sig .tc .vmem S32x1024 .i32) (harg1 : arg1.IsWhole)
    (arg2 : Memref sig .tc .vmem S1x1x128 .f32) (harg2 : arg2.IsWhole) (x : Vec F S32x1024 .i32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (histOut x)) -∗ K ⟨⟩))
      ⊢ wp frame (wpE (defs₀ (F := F)) 𝒱₀ (c : Thread nD τ) none) Set.univ (cc1__hist_kernel i arg1 harg1 arg2 harg2) K := by
  simp only [cc1__hist_kernel_eq_skeleton]; unfold cc1__hist_kernel_skel
  simp only [part1, part2, part3, part4, part5, part6, part7, part8, part9, part10, part11, part12, part13,
    Prog.lift, Prog.bind_op, Prog.bind_ret, Prog.pure_eq_ret]
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr; swap; · iexact H2
  ipureintro
  rw [read_load arg1 ![0, 0] (by decide)]
  exact read_store arg2 ![0, 0, 0] (by decide) inb_S1x1x128_S1x1x128_0_0_0 (histOut (arg1.view.read (Elt F) f1)) f2

end Cert.Proof.KI

end
-- ==== Proof.KI.Body.lean ====
/-
  The proof data of the two kernel regions of `Cert.KernelIdeal`, and the body obligation of each: at every grid point the
  body, given its input block, leaves `propOut` (`histOut`) of that block in its output staging buffer.
-/
module

public import proofs.«01_k».proof.Proof.KI.Prop
public import proofs.«01_k».proof.Proof.KI.Hist

@[expose] public section

set_option maxRecDepth 16384

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR nD τ) ℕ

variable (m : (ℓ : Loc nD τ sig) → Buf (Elt F) ℓ)

/-! ## Region 0: the propagation -/

/-- The input block at point `t`. -/
def iblk0 (c : Dev nD) (t : Fin (cfg0 (F := F)).N) : Vec F S32x32x128 .f32 :=
  (((cfg0 (F := F)).win 0).blk t).view.read (Elt F) (V1 m c (Proc.devRef .tc (Pipeline.arrRef spec0 0)))

/-- The proof data: the arrays as the first host stretch leaves them; the input staged, the output at `propOut`. -/
def dat0 (c : Dev nD) : Dat τ (Elt F) Unit ℕ (UR nD τ) ℕ (cfg0 (F := F)) c where
  A w := V1 m c (Proc.devRef .tc (Pipeline.arrRef spec0 w))
  after w t := match w with
    | ⟨0, _⟩ => iblk0 m c t
    | ⟨1, _⟩ => (propOut (iblk0 m c t) : Vec F S32x32x128 .i32)
  Φ _ := Pipeline.scopedRest spec0 c
  q _ := fullShare
  owed _ := 0

theorem A0 (c : Dev nD) (w : Fin (cfg0 (F := F)).W) : (dat0 m c).A w = V1 m c (Proc.devRef .tc (Pipeline.arrRef spec0 w)) := by
  dsimp only [dat0]
theorem after0_0 (c : Dev nD) (t : Fin (cfg0 (F := F)).N) : (dat0 m c).after 0 t = iblk0 m c t := by dsimp only [dat0]; rfl
theorem after0_1 (c : Dev nD) (t : Fin (cfg0 (F := F)).N) : (dat0 m c).after 1 t = (propOut (iblk0 m c t) : Vec F S32x32x128 .i32) := by
  dsimp only [dat0]; rfl

theorem before0_0 (c : Dev nD) (t : Fin (cfg0 (F := F)).N) (d) : (dat0 m c).before 0 t d = iblk0 m c t :=
  ((dat0 m c).before_in_eq_fetched 0 rfl (fun _ => rfl) (fun _ _ _ => rfl)
    (fun t => by rw [after0_0]; unfold Dat.blockOf iblk0; rw [A0]; rfl) t d).trans
    (by unfold Dat.fetched Dat.blockOf iblk0; rw [A0]; try rfl)

/-- The body obligation of region 0. -/
theorem body0 (c : Dev nD) : BodyObligation (dat0 m c) (defs₀ (F := F)) 𝒱₀ () Set.univ := fun t => by
  rw [bigSep_W0, bigSep_W0]
  show iprop((dat0 m c).Φ t.castSucc ∗ (dat0 m c).owesAt () t.castSucc
      ∗ (∃ d, owns (c : Thread nD τ) (st0_0 t) fullShare ((dat0 m c).before 0 t d))
      ∗ (∃ d, owns (c : Thread nD τ) (st0_1 t) fullShare ((dat0 m c).before 1 t d)))
    ⊢ wp frame (wpE (defs₀ (F := F)) 𝒱₀ (c : Thread nD τ) none) Set.univ (bodyAt0 t)
      (fun _ => iprop((dat0 m c).Φ t.succ ∗ (dat0 m c).owesAt () t.succ
        ∗ owns (c : Thread nD τ) (st0_0 t) fullShare ((dat0 m c).after 0 t) ∗ owns (c : Thread nD τ) (st0_1 t) fullShare ((dat0 m c).after 1 t)))
  simp only [before0_0]
  rw [show (dat0 m c).Φ t.succ = (dat0 m c).Φ t.castSucc from rfl, show (dat0 m c).owesAt () t.succ = (dat0 m c).owesAt () t.castSucc from rfl,
    after0_0, after0_1]
  unfold bodyAt0
  iintro ⟨HΦ, Ho, ⟨%d0, H0⟩, ⟨%d1, H1⟩⟩
  iapply (prop_kernel c (grid0.coords t) _ _ _ _ (iblk0 m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- What region 0 leaves in its result array. -/
def out0 (c : Dev nD) : Buf (Elt F) ((c : Thread nD τ).loc main_v2) := (dat0 m c).arrAt 1 (cfg0 (F := F)).N

/-! ## Region 1: the modes -/

/-- The contents the regions leave, as far as region 1's entry needs them. -/
def outsA : Outs (F := F) := fun _ r c => Function.update (fun r : Ref sig .tc => m ((c : Thread nD τ).loc r)) main_v2 (out0 m c) r

/-- The input block at point `t`. -/
def iblk1 (c : Dev nD) (t : Fin (cfg1 (F := F)).N) : Vec F S32x1024 .i32 :=
  (((cfg1 (F := F)).win 0).blk t).view.read (Elt F) (V3 m (outsA m) c (Proc.devRef .tc (Pipeline.arrRef spec1 0)))

/-- The proof data: the arrays as the second host stretch leaves them; the input staged, the output at `histOut`. -/
def dat1 (c : Dev nD) : Dat τ (Elt F) Unit ℕ (UR nD τ) ℕ (cfg1 (F := F)) c where
  A w := V3 m (outsA m) c (Proc.devRef .tc (Pipeline.arrRef spec1 w))
  after w t := match w with
    | ⟨0, _⟩ => iblk1 m c t
    | ⟨1, _⟩ => (histOut (iblk1 m c t) : Vec F S1x1x128 .f32)
  Φ _ := Pipeline.scopedRest spec1 c
  q _ := fullShare
  owed _ := 0

theorem A1 (c : Dev nD) (w : Fin (cfg1 (F := F)).W) : (dat1 m c).A w = V3 m (outsA m) c (Proc.devRef .tc (Pipeline.arrRef spec1 w)) := by
  dsimp only [dat1]
theorem after1_0 (c : Dev nD) (t : Fin (cfg1 (F := F)).N) : (dat1 m c).after 0 t = iblk1 m c t := by dsimp only [dat1]; rfl
theorem after1_1 (c : Dev nD) (t : Fin (cfg1 (F := F)).N) : (dat1 m c).after 1 t = (histOut (iblk1 m c t) : Vec F S1x1x128 .f32) := by
  dsimp only [dat1]; rfl

theorem before1_0 (c : Dev nD) (t : Fin (cfg1 (F := F)).N) (d) : (dat1 m c).before 0 t d = iblk1 m c t :=
  ((dat1 m c).before_in_eq_fetched 0 rfl (fun _ => rfl) (fun _ _ _ => rfl)
    (fun t => by rw [after1_0]; unfold Dat.blockOf iblk1; rw [A1]; rfl) t d).trans
    (by unfold Dat.fetched Dat.blockOf iblk1; rw [A1]; try rfl)

/-- The body obligation of region 1. -/
theorem body1 (c : Dev nD) : BodyObligation (dat1 m c) (defs₀ (F := F)) 𝒱₀ () Set.univ := fun t => by
  rw [bigSep_W1, bigSep_W1]
  show iprop((dat1 m c).Φ t.castSucc ∗ (dat1 m c).owesAt () t.castSucc
      ∗ (∃ d, owns (c : Thread nD τ) (st1_0 t) fullShare ((dat1 m c).before 0 t d))
      ∗ (∃ d, owns (c : Thread nD τ) (st1_1 t) fullShare ((dat1 m c).before 1 t d)))
    ⊢ wp frame (wpE (defs₀ (F := F)) 𝒱₀ (c : Thread nD τ) none) Set.univ (bodyAt1 t)
      (fun _ => iprop((dat1 m c).Φ t.succ ∗ (dat1 m c).owesAt () t.succ
        ∗ owns (c : Thread nD τ) (st1_0 t) fullShare ((dat1 m c).after 0 t) ∗ owns (c : Thread nD τ) (st1_1 t) fullShare ((dat1 m c).after 1 t)))
  simp only [before1_0]
  rw [show (dat1 m c).Φ t.succ = (dat1 m c).Φ t.castSucc from rfl, show (dat1 m c).owesAt () t.succ = (dat1 m c).owesAt () t.castSucc from rfl,
    after1_0, after1_1]
  unfold bodyAt1
  iintro ⟨HΦ, Ho, ⟨%d0, H0⟩, ⟨%d1, H1⟩⟩
  iapply (hist_kernel c (grid1.coords t) _ _ _ _ (iblk1 m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- What region 1 leaves in its result array. -/
def out1 (c : Dev nD) : Buf (Elt F) ((c : Thread nD τ).loc main_v5) := (dat1 m c).arrAt 1 (cfg1 (F := F)).N

/-- The contents the two regions leave. -/
def outs : Outs (F := F) := fun _ r c =>
  Function.update (Function.update (fun r : Ref sig .tc => m ((c : Thread nD τ).loc r)) main_v2 (out0 m c)) main_v5 (out1 m c) r

theorem outsA_v2 (J : ℕ) (c : Dev nD) : outsA m J main_v2 c = out0 m c := by unfold outsA; rw [Function.update_self]
theorem outs_v2 (J : ℕ) (c : Dev nD) : outs m J main_v2 c = out0 m c := by
  unfold outs; rw [Function.update_of_ne (by decide), Function.update_self]
theorem outs_v5 (J : ℕ) (c : Dev nD) : outs m J main_v5 c = out1 m c := by unfold outs; rw [Function.update_self]
theorem V2_outsA (c : Dev nD) : V2 m (outsA m) c = V2 m (outs m) c := by unfold V2; rw [outsA_v2, outs_v2]
theorem V3_outsA (c : Dev nD) : V3 m (outsA m) c = V3 m (outs m) c := by unfold V3; rw [V2_outsA]

end Cert.Proof.KI

end
-- ==== Proof.KI.Run.lean ====
/-
  The run of `Cert.KernelIdeal`: from any memory with zero counters every weakly fair execution ends with the argument as
  launched, every counter at zero, and the result at the last valuation `V5` over what the two regions leave (`outs`).
-/
module

public import proofs.«01_k».proof.Proof.KI.Body

@[expose] public section

set_option maxRecDepth 16384

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ (UR nD τ) ℕ

variable (m : (ℓ : Loc nD τ sig) → Buf (Elt F) ℓ) (ρ : Dev nD → PrngReg)

/-- The proof data of both regions. -/
def pdats : (p : Fin 2) → (c : Dev nD) → Dat τ (Elt F) Unit ℕ (UR nD τ) ℕ ((cfgs (F := F)) p) c
  | ⟨0, _⟩ => dat0 m
  | ⟨1, _⟩ => dat1 m

/-- The TensorCores' cells carry the one index; nobody owes anybody anything. -/
abbrev L : GSem nD τ sig → Finset Unit := fun g => if g.1.2 = .tc then {()} else ∅
abbrev lv : GSem nD τ sig → Unit → ℕ := fun _ _ => 0
abbrev D0 : Dev nD → CellTallies nD τ sig Unit := fun _ => 0

/-- What rides beside the buffers: the core's `owes`. -/
abbrev E (_ : Fin 3) (c : Dev nD) : sProp 𝕄 := iprop((∃ W, owes (c : Thread nD τ) (D0 c) W) ∗ emp ∗ emp)

theorem cut (p : Fin 2) : Pipeline.LevelCut (pcfgs (F := F)) adm () L lv p D0 (fun _ => 0) where
  hι _ _ _ := by show _ ∈ (if _ then _ else _); rw [if_pos rfl]; exact Finset.mem_singleton_self _
  hιb _ _ _ := le_refl 0
  hD _ _ _ h := absurd h (lt_irrefl 0)

theorem hin0 (c : Dev nD) : iprop(Pipeline.scopedRest (Pipeline.pin (pcfgs (F := F)) adm 0).spec c ∗ emp) ⊢ (pdats m 0 c).Φ 0 :=
  (sep_emp_elim : iprop(Pipeline.scopedRest spec0 c ∗ emp) ⊢ (Pipeline.scopedRest spec0 c : sProp 𝕄))
theorem hout0 (c : Dev nD) :
    (pdats m 0 c).Φ (Fin.last (Pipeline.pin (pcfgs (F := F)) adm 0).N) ⊢ iprop(Pipeline.scopedRest (Pipeline.pin (pcfgs (F := F)) adm 0).spec c ∗ emp) :=
  (sep_emp_intro : (Pipeline.scopedRest spec0 c : sProp 𝕄) ⊢ iprop(Pipeline.scopedRest spec0 c ∗ emp))
theorem hbody0 (c : Dev nD) : Pipeline.BodyObligationLoose (pdats m 0 c) (defs₀ (F := F)) 𝒱₀ () Set.univ := (body0 m c).loose
theorem howed0 (c : Dev nD) (t) : (pdats m 0 c).owed t = D0 c := rfl
theorem hrec0 (c : Dev nD) : (pdats m 0 c).recorded 0 = Set.univ := rfl
theorem hshare0 (c : Dev nD) (w) : (pdats m 0 c).share w = fullShare := (dat0 m c).share_full (fun _ => rfl) w
theorem hW0 (c : Dev nD) (w) : (pdats m 0 c).arrAt w 0 = V1 m c (Proc.devRef .tc (Pipeline.arrRef (Pipeline.pin (pcfgs (F := F)) adm 0).spec w)) := A0 m c w

/-- Region 0's record. -/
def R0 : RegionSeg (pcfgs (F := F)) adm (pdats m) () defs₀ 𝒱₀ L lv 0 :=
  RegionSeg.ofHeldIn (pcfgs (F := F)) adm (pdats m) () defs₀ 𝒱₀ L lv 0 D0 (Pipeline.ucRefs τ sig) (fun _ => iprop(emp)) (fun _ => iprop(emp))
    launch0.toP rfl (hbody0 m) (howed0 m) (hrec0 m) (hshare0 m) (hin0 m) (hout0 m) (fun _ => 0) (cut 0) (fun _ => iprop(emp)) (V1 m) (hW0 m)

theorem hin1 (c : Dev nD) : iprop(Pipeline.scopedRest (Pipeline.pin (pcfgs (F := F)) adm 1).spec c ∗ emp) ⊢ (pdats m 1 c).Φ 0 :=
  (sep_emp_elim : iprop(Pipeline.scopedRest spec1 c ∗ emp) ⊢ (Pipeline.scopedRest spec1 c : sProp 𝕄))
theorem hout1 (c : Dev nD) :
    (pdats m 1 c).Φ (Fin.last (Pipeline.pin (pcfgs (F := F)) adm 1).N) ⊢ iprop(Pipeline.scopedRest (Pipeline.pin (pcfgs (F := F)) adm 1).spec c ∗ emp) :=
  (sep_emp_intro : (Pipeline.scopedRest spec1 c : sProp 𝕄) ⊢ iprop(Pipeline.scopedRest spec1 c ∗ emp))
theorem hbody1 (c : Dev nD) : Pipeline.BodyObligationLoose (pdats m 1 c) (defs₀ (F := F)) 𝒱₀ () Set.univ := (body1 m c).loose
theorem howed1 (c : Dev nD) (t) : (pdats m 1 c).owed t = D0 c := rfl
theorem hrec1 (c : Dev nD) : (pdats m 1 c).recorded 0 = Set.univ := rfl
theorem hshare1 (c : Dev nD) (w) : (pdats m 1 c).share w = fullShare := (dat1 m c).share_full (fun _ => rfl) w
theorem hW1 (c : Dev nD) (w) : (pdats m 1 c).arrAt w 0 = V3 m (outsA m) c (Proc.devRef .tc (Pipeline.arrRef (Pipeline.pin (pcfgs (F := F)) adm 1).spec w)) := A1 m c w

/-- Region 1's record. -/
def R1 : RegionSeg (pcfgs (F := F)) adm (pdats m) () defs₀ 𝒱₀ L lv 1 :=
  RegionSeg.ofHeldIn (pcfgs (F := F)) adm (pdats m) () defs₀ 𝒱₀ L lv 1 D0 (Pipeline.ucRefs τ sig) (fun _ => iprop(emp)) (fun _ => iprop(emp))
    launch1.toP rfl (hbody1 m) (howed1 m) (hrec1 m) (hshare1 m) (hin1 m) (hout1 m) (fun _ => 0) (cut 1) (fun _ => iprop(emp)) (V3 m (outsA m)) (hW1 m)

/-- A region with one output window `w₁` changes that window's array alone. -/
theorem after_eq {cfg : Pipeline.Cfg sig (Λ₀ F)} {c : Dev nD} (dat : Dat τ (Elt F) Unit ℕ (UR nD τ) ℕ cfg c) (V V' : Valuation τ sig (Elt F))
    (hinj : Function.Injective (Pipeline.arrRef cfg.spec)) (hA : ∀ w, dat.A w = V (Proc.devRef .tc (Pipeline.arrRef cfg.spec w))) (w₁ : Fin cfg.W)
    (hw : ∀ w, w ≠ w₁ → (cfg.win w).isOut = false) (h1 : V' (Proc.devRef .tc (Pipeline.arrRef cfg.spec w₁)) = dat.arrAt w₁ cfg.N)
    (h2 : ∀ b, b ≠ Proc.devRef .tc (Pipeline.arrRef cfg.spec w₁) → V' b = V b) : Pipeline.afterRegion dat V = V' := by
  funext b
  by_cases hb : b = Proc.devRef .tc (Pipeline.arrRef cfg.spec w₁)
  · subst hb
    rw [h1]
    exact Pipeline.afterRegion_arr dat V hinj w₁
  rw [h2 b hb]
  by_cases hr : ∃ w, b = Proc.devRef .tc (Pipeline.arrRef cfg.spec w)
  · obtain ⟨w, rfl⟩ := hr
    refine Pipeline.afterRegion_keeps dat V hinj hA _ fun w' e => hw w' fun e' => hb ?_
    rw [← e, e']
  · refine Pipeline.afterRegion_off dat V {b} b (Finset.mem_sdiff.mpr ⟨Finset.mem_singleton_self b, ?_⟩)
    unfold Pipeline.arrRefs
    simp only [Finset.mem_map, Finset.mem_image, Finset.mem_univ, true_and]
    rintro ⟨r, ⟨w, rfl⟩, e⟩
    exact hr ⟨w, e.symm⟩

/-- Region 0 changes its result array alone. -/
theorem after0 (c : Dev nD) : Pipeline.afterRegion (dat0 m c) (V1 m c) = V2 m (outs m) c := by
  refine after_eq (dat0 m c) (V1 m c) (V2 m (outs m) c) winFacts0.arr_inj (A0 m c) (1 : Fin 2) (by decide : ∀ w : Fin 2, w ≠ 1 → (win0 w).isOut = false) ?_ fun b hb => ?_
  · exact (Function.update_self (Proc.devRef .tc main_v2 : DevRef τ sig) _ _).trans (outs_v2 m 2 c)
  · exact Function.update_of_ne (a := b) (a' := (Proc.devRef .tc main_v2 : DevRef τ sig)) hb _ _

/-- Region 1 changes its result array alone. -/
theorem after1 (c : Dev nD) : Pipeline.afterRegion (dat1 m c) (V3 m (outsA m) c) = V4 m (outs m) c := by
  refine after_eq (dat1 m c) (V3 m (outsA m) c) (V4 m (outs m) c) winFacts1.arr_inj (A1 m c) (1 : Fin 2) (by decide : ∀ w : Fin 2, w ≠ 1 → (win1 w).isOut = false) ?_ fun b hb => ?_
  · exact (Function.update_self (Proc.devRef .tc main_v5 : DevRef τ sig) _ _).trans (outs_v5 m 4 c)
  · rw [V3_outsA]; exact Function.update_of_ne (a := b) (a' := (Proc.devRef .tc main_v5 : DevRef τ sig)) hb _ _

theorem arrs0 : Pipeline.arrRefs (τ := τ) (pcfgs (F := F) 0).spec ⊆ Pipeline.ucRefs τ sig :=
  Pipeline.arrRefs_sub_ucRefs spec0 (by decide)
theorem arrs1 : Pipeline.arrRefs (τ := τ) (pcfgs (F := F) 1).spec ⊆ Pipeline.ucRefs τ sig :=
  Pipeline.arrRefs_sub_ucRefs spec1 (by decide)
theorem hpre0 (c : Dev nD) : iprop(StableHlo.held (c : Thread nD τ) (Pipeline.ucRefs τ sig) (V1 m c) ∗ E 0 c) ⊢ (R0 m).pre c := by
  unfold R0
  exact RegionSeg.ofHeldIn_pre (pcs := pcfgs (F := F)) (a := adm) (pdats := pdats m) (ι := ()) (defs₀ := defs₀) (𝒱₀ := 𝒱₀) (L := L) (lv := lv) (p := 0) (D := D0)
    (X := fun _ => iprop(emp)) (Y := fun _ => iprop(emp)) (R := fun _ => iprop(emp)) (W := V1 m) (arrs0 (F := F))
    (kit := launch0.toP) (hK := rfl) (hbody := hbody0 m) (howed := howed0 m) (hrec := hrec0 m) (hshare := hshare0 m) (hin := hin0 m) (hout := hout0 m)
    (b := fun _ => 0) (hcut := cut 0) (hW := hW0 m) c
theorem hpost0 (c : Dev nD) : (R0 m).post c ⊢ iprop(StableHlo.held (c : Thread nD τ) (Pipeline.ucRefs τ sig) (V2 m (outs m) c) ∗ E 1 c) := by
  unfold R0
  rw [← after0]
  exact RegionSeg.ofHeldIn_post (pcs := pcfgs (F := F)) (a := adm) (pdats := pdats m) (ι := ()) (defs₀ := defs₀) (𝒱₀ := 𝒱₀) (L := L) (lv := lv) (p := 0) (D := D0)
    (X := fun _ => iprop(emp)) (Y := fun _ => iprop(emp)) (R := fun _ => iprop(emp)) (W := V1 m) (arrs0 (F := F))
    (kit := launch0.toP) (hK := rfl) (hbody := hbody0 m) (howed := howed0 m) (hrec := hrec0 m) (hshare := hshare0 m) (hin := hin0 m) (hout := hout0 m)
    (b := fun _ => 0) (hcut := cut 0) (hW := hW0 m) c

theorem hpre1 (c : Dev nD) : iprop(StableHlo.held (c : Thread nD τ) (Pipeline.ucRefs τ sig) (V3 m (outs m) c) ∗ E 1 c) ⊢ (R1 m).pre c := by
  unfold R1
  rw [← V3_outsA]
  exact RegionSeg.ofHeldIn_pre (pcs := pcfgs (F := F)) (a := adm) (pdats := pdats m) (ι := ()) (defs₀ := defs₀) (𝒱₀ := 𝒱₀) (L := L) (lv := lv) (p := 1) (D := D0)
    (X := fun _ => iprop(emp)) (Y := fun _ => iprop(emp)) (R := fun _ => iprop(emp)) (W := V3 m (outsA m)) (arrs1 (F := F))
    (kit := launch1.toP) (hK := rfl) (hbody := hbody1 m) (howed := howed1 m) (hrec := hrec1 m) (hshare := hshare1 m) (hin := hin1 m) (hout := hout1 m)
    (b := fun _ => 0) (hcut := cut 1) (hW := hW1 m) c
theorem hpost1 (c : Dev nD) : (R1 m).post c ⊢ iprop(StableHlo.held (c : Thread nD τ) (Pipeline.ucRefs τ sig) (V4 m (outs m) c) ∗ E 2 c) := by
  unfold R1
  rw [← after1]
  exact RegionSeg.ofHeldIn_post (pcs := pcfgs (F := F)) (a := adm) (pdats := pdats m) (ι := ()) (defs₀ := defs₀) (𝒱₀ := 𝒱₀) (L := L) (lv := lv) (p := 1) (D := D0)
    (X := fun _ => iprop(emp)) (Y := fun _ => iprop(emp)) (R := fun _ => iprop(emp)) (W := V3 m (outsA m)) (arrs1 (F := F))
    (kit := launch1.toP) (hK := rfl) (hbody := hbody1 m) (howed := howed1 m) (hrec := hrec1 m) (hshare := hshare1 m) (hin := hin1 m) (hout := hout1 m)
    (b := fun _ => 0) (hcut := cut 1) (hW := hW1 m) c

/-- The launch element: the pipelines' at their staging cells. -/
def u₀ : UR nD τ := initOf (Pipeline.cells (cfgs (F := F)) cellOf_inj) (Pipeline.launchToks (cfgs (F := F)) cellOf_inj)

set_option backward.isDefEq.respectTransparency.types false in
/-- THE RUN: every weakly fair execution ends with the argument as launched, the result at `V5` over what the regions
    leave, and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v8) = V5 m (outs m) c main_v8)
      ∧ r.2.sem = fun _ => 0) := by
  refine Pipeline.θ_run_regions_kit_dev_sems (pcfgs (F := F)) adm (pdats m) () cellOf_inj EP defs₀ 𝒱₀ L lv m ρ main
    (segs m (outs m) 𝒱₀ L lv E () (pdats m) (R0 m) (R1 m))
    (fun c Q => by
      rewrite [main_chain c, Seg.run_eq_chain,
        show (segs m (outs m) 𝒱₀ L lv E () (pdats m) (R0 m) (R1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) D0
    (fun g hg => if_neg hg) (fun _ => iprop(emp)) (u₀ (F := F)) (by
      iintro Hu
      imodintro
      isplitl [Hu]
      · iapply (show (ownU (u₀ (F := F)) : sProp 𝕄) ⊢ BI.own (EP (u₀ (F := F))) from by unfold EP ownU; exact BI.Entails.refl _) $$ Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, hpre0 m c, hpost0 m c, hpre1 m c, hpost1 m c, sep_mono .rfl (by iintro ⟨H, -⟩; iexact H)⟩)
    (hinit := ?_) (QY := fun c s => s.mem ((c.tc : Thread nD τ).loc main_arg0) = m ((c.tc : Thread nD τ).loc main_arg0)
      ∧ s.mem ((c.tc : Thread nD τ).loc main_v8) = V5 m (outs m) c main_v8)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR nD τ) (Lvl := ℕ) c (V0 m c)]
    iintro ⟨⟨Hh, -, HO, -, -, -⟩, -⟩
    imodintro
    isplitl [Hh]; · iexact Hh
    isplitl [HO]; · iexists ∅; iexact HO
    isplitl [] <;> iempintro
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V5_main_arg0 m (outs m) c),
        h (Proc.devRef .tc main_v8) (Finset.mem_filter.mpr ⟨StableHlo.devRef_mem_tcRefs main_v8, by decide⟩)⟩
    · iexact HSI

end Cert.Proof.KI

end
-- ==== Proof.RI.Quiet.lean ====
/-
  The reference ends with every semaphore counter at zero. The generated run (`Value.run`) says what its buffers hold;
  here the same list of segments, host stretches around one counted loop, is launched with the counters read at the end.
-/
module

public import proofs.«01_k».proof.Proof.Gen.ReferenceIdeal.Run

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs)

variable {F : FTy → Type} [FloatOps F]

local notation "𝕄" => MT nD τ sig Unit (Elt F) ℕ (Option PUnit) ℕ

variable (m : (ℓ : Loc nD τ sig) → Buf (Elt F) ℓ) (ρ : Dev nD → PrngReg)

/-! No pipeline, no ticket, no level. -/
abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

theorem cells_inj : Function.Injective (Pipeline.cellOf (nD := nD) (τ := τ) (Pipeline.pin (pcfgs (F := F)) adm)) := fun k => k.1.elim0

/-- What rides beside the buffers: the core's `owes`. -/
abbrev Rw (c : Dev nD) : sProp 𝕄 := iprop(∃ W, owes (c : Thread nD τ) (0 : CellTallies nD τ sig Unit) W)

/-- The condition's specification with the core's `owes` framed through it. -/
theorem cond_framed : LoopCond (pcfgs (F := F)) defs₀ Variants.none loops Rw (main_while0_cond (F := F)) condOps bodyI (entryContents preI m) 128 := by
  intro k hk c bd
  have hpost : ∀ v : Elt F .i1,
      iprop(iprop(⌜v = 1#1 ↔ k < 128⌝ ∗ boundary (c : Thread nD τ) ∗ held (c : Thread nD τ) (ucRefs τ sig) (after condOps (atTrip condOps bodyI (entryContents preI m) k c))) ∗ Rw c)
        ⊢ (iprop(⌜v = 1#1 ↔ k < 128⌝ ∗ boundary (c : Thread nD τ) ∗ held (c : Thread nD τ) (ucRefs τ sig) (after condOps (atTrip condOps bodyI (entryContents preI m) k c)) ∗ Rw c) : sProp 𝕄) := fun v => by
    iintro ⟨⟨%hv, Hb, Hh⟩, HR⟩
    isplitr; · ipureintro; exact hv
    isplitl [Hb]; · iexact Hb
    isplitl [Hh] <;> iassumption
  refine BIBase.Entails.trans ?_ (((sep_mono_left (cond_spec m k hk c bd)).trans (wp_frame_r _ _ _)).trans (wp_mono _ _ _ hpost))
  iintro ⟨Hb, Hh, HR⟩
  isplitl [Hb Hh]; · isplitl [Hb] <;> iassumption
  iexact HR

/-- @main's segments. -/
def segs : List (CSeg (pcfgs (F := F)) adm defs₀ Variants.none L lv loops tk) :=
  segsOf _ _ _ _ _ _ _ _ Rw preI hpre (launchContents m)
    ++ loopSeg _ _ _ _ _ _ _ _ 0 main_while0_cond main_while0_body rfl condOps bodyI hbodyI (by rw [while0_body_chain]; rfl) 128 (entryContents preI m) Rw (cond_framed m)
      :: segsOf _ _ _ _ _ _ _ _ Rw postI hpost (fun c => after condOps (atTrip condOps bodyI (entryContents preI m) 128 c))

/-- The signature has no unscoped semaphore. -/
theorem no_unscoped : ∀ sm : SemLoc sig, sm.isScoped .tc = true := by decide

set_option backward.isDefEq.respectTransparency.types false in
set_option maxRecDepth 100000 in
/-- Every counter ends at zero. -/
theorem sems : θ_run (defs (F := F)) (onTc (τ := τ) (main (F := F))) ⟨m, fun _ => 0, ρ⟩ (fun r => r.2.sem = fun _ => 0) :=
  Pipeline.θ_run_regions_loop_kit_sems (Ix := Unit) (Name := ℕ) (U := Option PUnit) (Lvl := ℕ) (J := Fin 0) (P := Fin 0) (Val := Elt F)
    (pcfgs (F := F)) adm cells_inj defs₀ Variants.none L lv loops tk m ρ main (segs m)
    (fun c Q => by
      rw [show main c = Pipeline.chain ((preI.map fun ops => (seq ops : Prog _ PUnit)) ++ HostLoop.enter 0 :: postI.map fun ops => (seq ops : Prog _ PUnit)) by
        rw [main_chain]; rfl]
      show wp _ _ _ (Pipeline.chain ((segs m).map CSeg.prog)) Q ⊢ _
      unfold segs
      rw [List.map_append, List.map_cons, segsOf_prog, segsOf_prog]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (finalContents condOps preI bodyI postI 128 m c)))
    (hch := by
      unfold segs
      exact CSeg.Chains.append (segsOf_chains _ _ _ _ _ _ _ _ Rw preI hpre _) ⟨fun _ => .rfl, segsOf_chains _ _ _ _ _ _ _ _ Rw postI hpost _⟩)
    (hinit := by
      refine Pipeline.initEach L lv fun c => ?_
      rw [show unscopedBufs c (fun b => m ((c.tc : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun _ _ => True)
    (hfin := fun c s' => by
      iintro ⟨-, HSI⟩
      imodintro
      isplitr; · ipureintro; trivial
      iexact HSI)
    (hQ := fun _ _ hz => funext fun g => hz g (.inr (no_unscoped g.2)))

/-- The run with the counters: the result, the argument unchanged, every counter at zero. -/
theorem run_quiet : θ_run (defs (F := F)) (onTc (τ := τ) (main (F := F))) ⟨m, fun _ => 0, ρ⟩ (fun r => (∀ c : Dev nD,
      r.2.mem ((c.tc : Thread nD τ).loc main_v31) = out_main_v31 (STEP^[128] (entryContents preI m c))
      ∧ r.2.mem ((c.tc : Thread nD τ).loc main_arg0) = m ((c.tc : Thread nD τ).loc main_arg0)) ∧ r.2.sem = fun _ => 0) :=
  have h₁ := run m ρ
  have h := sems m ρ
  ⟨fun t ht hf => ⟨h₁.post t ht hf, h.post t ht hf⟩, h.progress, h.fair⟩

end Cert.Proof.RI

end
-- ==== Proof.V.Model.lean ====
/-
  The arithmetic both programs share, on natural numbers and without any program: label propagation on one 32 × 32 patch.

  A patch is its mask `M : ℕ → ℕ → Prop` (row, column). A labelling `T : ℕ → ℕ → ℕ` is zero off the mask and between 1 and
  1024 on it (`Good`). One step (`step`) gives a cell of the mask the largest label among its four neighbours and itself.
  Labels only grow (`le_step`), so a labelling whose sum a number of steps leaves alone is a fixed point of those steps.
-/
module

public import Idealize.ShloMosaic.Lib.Pipeline.ValueKit

@[expose] public section

noncomputable section

namespace Cert.Proof.V

/-- The largest label among the four neighbours; a neighbour beyond row or column zero counts as zero. -/
def nbr (T : ℕ → ℕ → ℕ) (h w : ℕ) : ℕ :=
  max (max (T (h + 1) w) (if h = 0 then 0 else T (h - 1) w)) (max (T h (w + 1)) (if w = 0 then 0 else T h (w - 1)))

open Classical in
/-- One propagation step. -/
def step (M : ℕ → ℕ → Prop) (T : ℕ → ℕ → ℕ) : ℕ → ℕ → ℕ := fun h w => if M h w then max (nbr T h w) (T h w) else 0

open Classical in
/-- The labels before the first step: the first cell in row-major order carries the largest. -/
def start (M : ℕ → ℕ → Prop) : ℕ → ℕ → ℕ := fun h w => if M h w then 1024 - 32 * h - w else 0

/-- A mask that lies within the patch. -/
def Within (M : ℕ → ℕ → Prop) : Prop := ∀ h w, M h w → h < 32 ∧ w < 32

/-- A labelling of the mask by the numbers 1 to 1024. -/
structure Good (M : ℕ → ℕ → Prop) (T : ℕ → ℕ → ℕ) : Prop where
  off : ∀ h w, ¬ M h w → T h w = 0
  pos : ∀ h w, M h w → 1 ≤ T h w
  le : ∀ h w, T h w ≤ 1024

variable {M : ℕ → ℕ → Prop} {T : ℕ → ℕ → ℕ}

theorem good_start (hM : Within M) : Good M (start M) := by
  refine ⟨fun h w hm => by simp [start, hm], fun h w hm => ?_, fun h w => ?_⟩
  · have := hM h w hm
    simp only [start, hm, if_true]; omega
  · unfold start; split <;> omega

theorem nbr_le (hT : ∀ h w, T h w ≤ 1024) (h w : ℕ) : nbr T h w ≤ 1024 := by
  have h₁ := hT (h + 1) w
  have h₂ := hT (h - 1) w
  have h₃ := hT h (w + 1)
  have h₄ := hT h (w - 1)
  unfold nbr; split <;> split <;> omega

theorem good_step (hT : Good M T) : Good M (step M T) := by
  refine ⟨fun h w hm => by simp [step, hm], fun h w hm => ?_, fun h w => ?_⟩
  · have := hT.pos h w hm
    simp only [step, hm, if_true]; omega
  · have h₁ := nbr_le hT.le h w
    have h₂ := hT.le h w
    unfold step; split <;> omega

theorem good_iter (hT : Good M T) : ∀ k, Good M ((step M)^[k] T)
  | 0 => hT
  | k + 1 => by rw [Function.iterate_succ_apply']; exact good_step (good_iter hT k)

/-- Labels only grow. -/
theorem le_step (hT : Good M T) (h w : ℕ) : T h w ≤ step M T h w := by
  unfold step
  split
  · omega
  · rename_i hm; rw [hT.off h w hm]

theorem le_iter (hT : Good M T) (h w : ℕ) : ∀ k, T h w ≤ (step M)^[k] T h w
  | 0 => le_rfl
  | k + 1 => by
    rw [Function.iterate_succ_apply']
    exact (le_iter hT h w k).trans (le_step (good_iter hT k) h w)

/-! ## The histogram of a labelling -/

/-- The cell with row-major number `j`. -/
abbrev cell (T : ℕ → ℕ → ℕ) (j : ℕ) : ℕ := T (j / 32) (j % 32)

/-- The bin of a label: zero stays zero, the largest label is bin 1. -/
def bin (t : ℕ) : ℕ := if t = 0 then 0 else 1025 - t

/-- How many cells fall in bin `b`. -/
def count (T : ℕ → ℕ → ℕ) (b : ℕ) : ℕ := (Finset.univ.filter fun j : Fin 1024 => bin (cell T j) = b).card

/-- The largest count of the bins 0 to 1024. -/
def modeN (T : ℕ → ℕ → ℕ) : ℕ := Finset.univ.sup fun b : Fin 1025 => count T b

theorem count_le (T : ℕ → ℕ → ℕ) (b : ℕ) : count T b ≤ 1024 := by
  unfold count
  exact (Finset.card_filter_le _ _).trans (by simp)

theorem modeN_le (T : ℕ → ℕ → ℕ) : modeN T ≤ 1024 := Finset.sup_le fun b _ => count_le T b

/-- The same maximum, bin zero apart and the other bins by their two base-32 digits. -/
theorem modeN_eq (T : ℕ → ℕ → ℕ) :
    modeN T = max (Finset.univ.sup fun p : Fin 32 × Fin 32 => count T (32 * p.1 + p.2 + 1)) (count T 0) := by
  refine le_antisymm (Finset.sup_le fun b _ => ?_) (max_le (Finset.sup_le fun p _ => ?_) ?_)
  · by_cases hb : b.val = 0
    · rw [hb]; exact le_max_right _ _
    · have hlt := b.isLt
      refine le_trans (le_of_eq ?_) (le_trans (Finset.le_sup (f := fun p : Fin 32 × Fin 32 => count T (32 * p.1 + p.2 + 1))
        (Finset.mem_univ (⟨(b.val - 1) / 32, by omega⟩, ⟨(b.val - 1) % 32, by omega⟩))) (le_max_left _ _))
      congr 1
      show b.val = 32 * ((b.val - 1) / 32) + (b.val - 1) % 32 + 1
      omega
  · have h₁ := p.1.isLt
    have h₂ := p.2.isLt
    exact Finset.le_sup (f := fun b : Fin 1025 => count T b) (Finset.mem_univ (⟨32 * p.1 + p.2 + 1, by omega⟩ : Fin 1025))
  · exact Finset.le_sup (f := fun b : Fin 1025 => count T b) (Finset.mem_univ (0 : Fin 1025))

/-! ## The labels of a stack of patches -/

/-- Patch `P`'s mask: the cells whose value is not zero. -/
def maskOf (X : Fin 1536 → Fin 32 → Fin 32 → EReal) (P h w : ℕ) : Prop := ∃ (hP : P < 1536) (hh : h < 32) (hw : w < 32), X ⟨P, hP⟩ ⟨h, hh⟩ ⟨w, hw⟩ ≠ 0

/-- Patch `P`'s labels after `k` steps. -/
def labels (X : Fin 1536 → Fin 32 → Fin 32 → EReal) (k P : ℕ) : ℕ → ℕ → ℕ := (step (maskOf X P))^[k] (start (maskOf X P))

theorem within_maskOf (X : Fin 1536 → Fin 32 → Fin 32 → EReal) (P : ℕ) : Within (maskOf X P) := fun _ _ ⟨_, hh, hw, _⟩ => ⟨hh, hw⟩

theorem maskOf_iff (X : Fin 1536 → Fin 32 → Fin 32 → EReal) (P : Fin 1536) (h w : Fin 32) : maskOf X P h w ↔ X P h w ≠ 0 :=
  ⟨fun ⟨_, _, _, e⟩ => e, fun e => ⟨P.isLt, h.isLt, w.isLt, e⟩⟩

theorem good_labels (X : Fin 1536 → Fin 32 → Fin 32 → EReal) (k P : ℕ) : Good (maskOf X P) (labels X k P) :=
  good_iter (good_start (within_maskOf X P)) k

theorem labels_succ (X : Fin 1536 → Fin 32 → Fin 32 → EReal) (k P : ℕ) : labels X (k + 1) P = step (maskOf X P) (labels X k P) :=
  Function.iterate_succ_apply' _ _ _

/-- The mean of 32 modes, rounded down. -/
def meanN (T : ℕ → ℕ → ℕ → ℕ) : ℕ := (∑ p ∈ Finset.range 32, modeN (T p)) / 32

theorem sum_modes_le (T : ℕ → ℕ → ℕ → ℕ) : ∑ p ∈ Finset.range 32, modeN (T p) ≤ 32768 :=
  (Finset.sum_le_sum fun p _ => modeN_le (T p)).trans (by simp)

/-- What both programs return for group `g` of 32 patches. -/
def answer (X : Fin 1536 → Fin 32 → Fin 32 → EReal) (g : ℕ) : ℕ := meanN fun p => labels X 128 (32 * g + p)

end Cert.Proof.V

end
-- ==== Proof.V.Words.lean ====
/-
  32-bit words that hold small natural numbers: what the integer operations of both programs do to them.
-/
module

public import Idealize.ShloMosaic.Lib.Pipeline.ValueKit
public import Idealize.ShloMosaic.Lib.WordArith
public import Idealize.ShloMosaic.Lib.Routing.BitFacts

@[expose] public section

namespace Cert.Proof.V

open Idealize.ShloMosaic Idealize.ShloMosaic.Routing

theorem word_max {a b : ℕ} (ha : a < 2 ^ 31) (hb : b < 2 ^ 31) : IntOp.maxsi (BitVec.ofNat 32 a) (BitVec.ofNat 32 b) = BitVec.ofNat 32 (max a b) := by
  unfold IntOp.maxsi
  rw [slt_ofNat32 hb ha]
  by_cases h : b < a
  · rw [decide_eq_true h, if_pos rfl, max_eq_left h.le]
  · rw [decide_eq_false h, if_neg (by decide), max_eq_right (not_lt.mp h)]

theorem word_min {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [decide_eq_true h, if_pos rfl, min_eq_left h.le]
  · rw [decide_eq_false h, if_neg (by decide), min_eq_right (not_lt.mp h)]

theorem word_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

theorem word_sub {a b : ℕ} (h : b ≤ a) : IntOp.subi (BitVec.ofNat 32 a) (BitVec.ofNat 32 b) = BitVec.ofNat 32 (a - b) := by
  show BitVec.ofNat 32 a - BitVec.ofNat 32 b = _
  refine BitVec.eq_of_toNat_eq ?_
  rw [BitVec.toNat_sub, BitVec.toNat_ofNat, BitVec.toNat_ofNat, BitVec.toNat_ofNat]
  omega

theorem word_add (a b : ℕ) : IntOp.addi (BitVec.ofNat 32 a) (BitVec.ofNat 32 b) = BitVec.ofNat 32 (a + b) :=
  (BitVec.ofNat_add a b).symm

theorem word_mul (a b : ℕ) : IntOp.muli (BitVec.ofNat 32 a) (BitVec.ofNat 32 b) = BitVec.ofNat 32 (a * b) :=
  (BitVec.ofNat_mul a b).symm

theorem word_gt_zero {a : ℕ} (ha : a < 2 ^ 31) : IntOp.cmpi .sgt (BitVec.ofNat 32 a) 0#32 = BitVec.ofBool (decide (0 < a)) := by
  show BitVec.ofBool ((BitVec.ofNat 32 0).slt (BitVec.ofNat 32 a)) = _
  rw [slt_ofNat32 (by norm_num) ha]

theorem word_eq {a b : ℕ} (ha : a < 2 ^ 32) (hb : b < 2 ^ 32) : IntOp.cmpi .eq (BitVec.ofNat 32 a) (BitVec.ofNat 32 b) = 1#1 ↔ a = b := by
  show BitVec.ofBool (BitVec.ofNat 32 a == BitVec.ofNat 32 b) = 1#1 ↔ _
  by_cases h : a = b
  · subst h; simp
  · have : (BitVec.ofNat 32 a == BitVec.ofNat 32 b) = false := beq_eq_false_iff_ne.mpr fun e => h (word_inj ha hb e)
    rw [this]; simp [h]

/-- A sum of words that hold numbers is the word of their sum. -/
theorem word_sum {ι : Type} (S : Finset ι) (f : ι → BitVec 32) (g : ι → ℕ) (h : ∀ i, f i = BitVec.ofNat 32 (g i)) :
    S.fold IntOp.addi (0#32) f = BitVec.ofNat 32 (∑ i ∈ S, g i) := by
  classical
  induction S using Finset.induction_on with
  | empty => rfl
  | insert a S ha ih => rw [Finset.fold_insert ha, ih, Finset.sum_insert ha, h, word_add]

/-- A maximum of words that hold numbers, from the least word, over a set that is not empty, is the word of their maximum. -/
theorem word_sup {ι : Type} (S : Finset ι) (hS : S.Nonempty) (f : ι → BitVec 32) (g : ι → ℕ) (h : ∀ i, f i = BitVec.ofNat 32 (g i)) (hg : ∀ i, g i < 2 ^ 31) :
    S.fold IntOp.maxsi (2147483648#32) f = BitVec.ofNat 32 (S.sup g) := by
  classical
  induction hS using Finset.Nonempty.cons_induction with
  | singleton a =>
    rw [Finset.fold_singleton, Finset.sup_singleton, h]
    unfold IntOp.maxsi
    rw [if_pos]
    unfold BitVec.slt
    rw [WordArith.toInt_ofNat_small _ (hg a)]
    exact decide_eq_true (lt_of_lt_of_le (by decide : BitVec.toInt (2147483648#32) < 0) (Int.natCast_nonneg _))
  | cons a S ha _ ih =>
    rw [Finset.fold_cons, ih, Finset.sup_cons, h, word_max (hg a)]
    exact (Finset.sup_lt_iff (by norm_num)).mpr fun i _ => hg i

/-! ## Digits, quotient and floor -/

/-- The high and the low base-32 digit of a number up to 1024. -/
theorem word_digits : ∀ a : Fin 1025, IntOp.shrsi .vector (BitVec.ofNat 32 a) 5#32 = BitVec.ofNat 32 (a / 32)
    ∧ IntOp.andi (BitVec.ofNat 32 a) 31#32 = BitVec.ofNat 32 (a % 32) := by decide +kernel

theorem word_div (u : ArithUnit) {n : ℕ} (hn : n < 2 ^ 31) : IntOp.divsi u (BitVec.ofNat 32 n) 32#32 = BitVec.ofNat 32 (n / 32) := by
  have hm : (BitVec.ofNat 32 n).msb = false := by rw [BitVec.msb_eq_false_iff_two_mul_lt, BitVec.toNat_ofNat]; omega
  unfold IntOp.divsi
  rw [if_neg (by rintro (h | ⟨_, h⟩) <;> exact absurd h (by decide)), BitVec.sdiv_eq, hm]
  refine BitVec.eq_of_toNat_eq ?_
  show (BitVec.ofNat 32 n / 32#32).toNat = _
  rw [BitVec.toNat_udiv, BitVec.toNat_ofNat, BitVec.toNat_ofNat, BitVec.toNat_ofNat, Nat.mod_eq_of_lt (by omega : n < 2 ^ 32),
    Nat.mod_eq_of_lt (by omega : n / 32 < 2 ^ 32)]

/-- The correction of a quotient rounded to zero into one rounded down does nothing where the dividend is not negative: `σ` is
    the dividend's sign, read only where it is not zero. -/
theorem floor_select (u : ArithUnit) {n : ℕ} (σ q' : BitVec 32) (h : 0 < n → σ = 1#32) (q : BitVec 32) :
    Scalar.select (IntOp.andi (IntOp.cmpi .ne σ 1#32) (IntOp.cmpi .ne (IntOp.remsi u (BitVec.ofNat 32 n) 32#32) 0#32)) q' q = q := by
  rcases Nat.eq_zero_or_pos n with rfl | hn
  · have : IntOp.cmpi .ne (IntOp.remsi u (BitVec.ofNat 32 0) 32#32) 0#32 = 0#1 := by cases u <;> decide
    rw [this, show ∀ b : BitVec 1, IntOp.andi b 0#1 = 0#1 by decide]; rfl
  · rw [h hn, show IntOp.cmpi .ne (1#32 : BitVec 32) 1#32 = 0#1 by decide, show ∀ b : BitVec 1, IntOp.andi 0#1 b = 0#1 by decide]; rfl

/-- The sign of a positive number, as the difference of two comparisons. -/
theorem word_sign {n : ℕ} (hn : n < 2 ^ 31) (h : 0 < n) :
    IntOp.subi ((IntOp.cmpi .sgt (BitVec.ofNat 32 n) 0#32).setWidth 32) ((IntOp.cmpi .slt (BitVec.ofNat 32 n) 0#32).setWidth 32) = 1#32 := by
  have e : IntOp.cmpi .slt (BitVec.ofNat 32 n) 0#32 = 0#1 := by
    show BitVec.ofBool ((BitVec.ofNat 32 n).slt (BitVec.ofNat 32 0)) = _
    rw [Routing.slt_ofNat32 hn (by norm_num)]; simp
  rw [word_gt_zero hn, e, decide_eq_true h]
  decide

/-! ## Numbers in the extended reals -/

theorem ideal_bot : Ideal.ofBits .f32 0xFF800000#32 = ⊥ := by
  simp [Ideal.ofBits, Ideal.ieee]

/-- A word that fits, as an extended real. -/
theorem real_of_word {n : ℕ} (hn : n < 2 ^ 31) : (((BitVec.ofNat 32 n).toInt : ℝ) : EReal) = (n : EReal) := by
  rw [show (BitVec.ofNat 32 n).toInt = (n : ℤ) from WordArith.toInt_ofNat_small n hn]
  simp

/-- Rounding toward zero returns a number that fits. -/
theorem word_of_ideal {n : ℕ} (hn : n < 2 ^ 31) : Ideal.fptosi 32 (n : EReal) = BitVec.ofNat 32 n := by
  rw [show (n : EReal) = ((n : ℝ) : EReal) from (EReal.coe_natCast).symm, Ideal.fptosi, Ideal.toIntClamped_coe, if_pos (Nat.cast_nonneg n), Int.floor_natCast]
  rw [show max (-((2 ^ (32 - 1) : ℕ) : ℤ)) (min (((2 ^ (32 - 1) : ℕ) : ℤ) - 1) (n : ℤ)) = n by norm_num at hn ⊢; omega]
  exact BitVec.ofInt_natCast 32 n

/-- The maximum of numbers, from the least element, is their maximum as a number. -/
theorem fold_max_nat {ι : Type} (S : Finset ι) (hS : S.Nonempty) (f : ι → EReal) (g : ι → ℕ) (h : ∀ i, f i = (g i : EReal)) :
    S.fold max ⊥ f = ((S.sup g : ℕ) : EReal) := by
  classical
  induction hS using Finset.Nonempty.cons_induction with
  | singleton a => rw [Finset.fold_singleton, Finset.sup_singleton, h]; exact max_bot_right _
  | cons a S ha _ ih =>
    rw [Finset.fold_cons, ih, Finset.sup_cons, h]
    exact (Monotone.map_max (f := fun n : ℕ => (n : EReal)) fun a b hab => by
      show (a : EReal) ≤ (b : EReal); exact_mod_cast hab).symm

/-- A sum of products of indicators counts where both hold. -/
theorem sum_mul_nat {ι : Type} [Fintype ι] (p q : ι → Prop) [DecidablePred p] [DecidablePred q] (f g : ι → EReal)
    (hf : ∀ i, f i = ((if p i then 1 else 0 : ℕ) : EReal)) (hg : ∀ i, g i = ((if q i then 1 else 0 : ℕ) : EReal)) :
    ∑ i, f i * g i = (((Finset.univ.filter fun i => p i ∧ q i).card : ℕ) : EReal) := by
  have e : ∀ i, f i * g i = ((if p i ∧ q i then 1 else 0 : ℕ) : EReal) := fun i => by
    rw [hf, hg]
    by_cases hp : p i <;> by_cases hq : q i <;> simp [hp, hq]
  rw [Finset.sum_congr rfl fun i _ => e i, Finset.card_filter, Nat.cast_sum]

end Cert.Proof.V
-- ==== Proof.V.HistVal.lean ====
/-
  What the histogram kernel stores, in numbers.

  A block holds 32 rows of 1024 labels, row `p` being the labelling `T p` of one patch (`Rows`). The kernel takes each row's
  1024 minus label apart into two base-32 digits, multiplies one-hot matrices of the digits, and so finds on a diagonal square
  of the product how often each pair of digits occurs: how many cells fall in each bin but bin 0 (`prodOf_apply`). The largest
  entry and the count of zero labels give the row's mode (`mode_eq`), and the stored row holds the mean of the 32 modes,
  rounded down (`histOut_apply`).
-/
module

public import proofs.«01_k».proof.Proof.KI.Values
public import proofs.«01_k».proof.Proof.V.Model
public import proofs.«01_k».proof.Proof.V.Words
public import Idealize.ShloMosaic.Lib.IndicatorCount

@[expose] public section

set_option maxRecDepth 16384

noncomputable section

namespace Cert.Proof.V

open Cert.KernelIdeal Cert.KernelIdeal.Gen
open Idealize.ShloMosaic
open Cert.Proof.KI

/-- The block holds, row by row, the labels of the patches `T 0 … T 31`, none above 1024. -/
structure Rows (x : Vec Ideal S32x1024 .i32) (T : ℕ → ℕ → ℕ → ℕ) : Prop where
  at_ : ∀ (p : Fin 32) (j : Fin 1024), x (ix2 p j) = BitVec.ofNat 32 (cell (T p) j)
  le : ∀ p h w, T p h w ≤ 1024

variable {x : Vec Ideal S32x1024 .i32} {T : ℕ → ℕ → ℕ → ℕ}

/-! ## Digits -/

theorem hiOf_apply (hx : Rows x T) (p : Fin 32) (j : Fin 1024) : hiOf x (ix2 p j) = BitVec.ofNat 32 ((1024 - cell (T p) j) / 32) := by
  unfold hiOf
  pointwise [k1_pay2, k1_pay3, k1_pay4]
  rw [hx.at_, show (1024#32) = BitVec.ofNat 32 1024 from rfl, word_sub (hx.le _ _ _)]
  exact (word_digits ⟨_, by omega⟩).1

theorem loOf_apply (hx : Rows x T) (p : Fin 32) (j : Fin 1024) : loOf x (ix2 p j) = BitVec.ofNat 32 ((1024 - cell (T p) j) % 32) := by
  unfold loOf
  pointwise [k1_pay2, k1_pay3, k1_pay5]
  rw [hx.at_, show (1024#32) = BitVec.ofNat 32 1024 from rfl, word_sub (hx.le _ _ _)]
  exact (word_digits ⟨_, by omega⟩).2

/-- One-hot rows hold 1 where the digit is the row's number, else 0. -/
theorem hot_apply (v : IVec S32x1024 32) (p a : Fin 32) (j : Fin 1024) {n : ℕ} (hn : n < 2 ^ 32) (hv : v (ix2 p j) = BitVec.ofNat 32 n) :
    (hot v p : FVec Ideal S32x1024 .f32) (ix2 a j) = ((if n = a then 1 else 0 : ℕ) : EReal) := by
  unfold hot eqB rowB digits
  pointwise
  rw [hv]
  have e := word_eq hn (b := (a : ℕ)) (by omega)
  by_cases h : n = a
  · rw [e.2 h, if_pos h]
    show ((((BitVec.setWidth 32 1#1).toInt : ℤ) : ℝ) : EReal) = _
    simp
  · have e0 : IntOp.cmpi .eq (BitVec.ofNat 32 n) (BitVec.ofNat 32 a) = 0#1 := by
      rcases BitVec.eq_zero_or_eq_one (IntOp.cmpi .eq (BitVec.ofNat 32 n) (BitVec.ofNat 32 a)) with h' | h'
      · exact h'
      · exact absurd (e.1 h') h
    rw [e0, if_neg h]
    show ((((BitVec.setWidth 32 0#1).toInt : ℤ) : ℝ) : EReal) = _
    simp

theorem stack_apply (v : IVec S32x1024 32) (q : Fin 8) (s : Fin 4) (a : Fin 32) (j : Fin 1024) :
    (stack v q : FVec Ideal S128x1024 .f32) (ix2 ⟨32 * s.val + a.val, by omega⟩ j) = (hot v (rowOf q s) : FVec Ideal S32x1024 .f32) (ix2 a j) := by
  have ha := a.isLt
  unfold stack
  fin_vals s with hs
  all_goals pointwise
  all_goals simp only [hs]
  all_goals split_ifs
  all_goals first
    | (exfalso; omega)
    | (refine congrArg₂ (fun r k => (hot v r : FVec Ideal S32x1024 .f32) (ix2 k j)) ?_ ?_ <;> (apply Fin.ext; simp [hs]; try omega))

/-! ## A row's mode -/

theorem digits_bin {t a b : ℕ} (ht : t ≤ 1024) (ha : a < 32) (hb : b < 32) :
    (1024 - t) / 32 = a ∧ (1024 - t) % 32 = b ↔ bin t = 32 * a + b + 1 := by
  unfold bin; split <;> omega

theorem zero_bin {t : ℕ} (ht : t ≤ 1024) : t = 0 ↔ bin t = 0 := by
  unfold bin; split <;> omega

theorem prodOf_apply (hx : Rows x T) (q : Fin 8) (s : Fin 4) (a b : Fin 32) :
    prodOf x q (ix2 ⟨32 * s.val + a.val, by omega⟩ ⟨32 * s.val + b.val, by omega⟩)
      = ((count (T (rowOf q s)) (32 * a + b + 1) : ℕ) : EReal) := by
  unfold prodOf
  pointwise
  refine (sum_mul_nat (fun j : Fin 1024 => (1024 - cell (T (rowOf q s)) j) / 32 = (a : ℕ)) (fun j => (1024 - cell (T (rowOf q s)) j) % 32 = (b : ℕ))
    _ _ (fun j => ?_) fun j => ?_).trans ?_
  · rw [stack_apply]; exact hot_apply _ _ _ _ (by omega) (hiOf_apply hx _ _)
  · rw [stack_apply]; exact hot_apply _ _ _ _ (by omega) (loOf_apply hx _ _)
  · unfold count
    refine congrArg (fun S : Finset (Fin 1024) => ((S.card : ℕ) : EReal)) (Finset.filter_congr fun j _ => ?_)
    exact digits_bin (hx.le _ _ _) a.isLt b.isLt

theorem topOf_eq (hx : Rows x T) (q : Fin 8) (s : Fin 4) :
    topOf x q s = ((Finset.univ.sup fun p : Fin 32 × Fin 32 => count (T (rowOf q s)) (32 * p.1 + p.2 + 1) : ℕ) : EReal) := by
  unfold topOf maxOf sqOf
  pointwise
  rw [show Ideal.ofBits .f32 4286578688#32 = ⊥ from ideal_bot]
  exact fold_max_nat _ Finset.univ_nonempty _ _ fun p => prodOf_apply hx q s p.1 p.2

theorem backOf_eq (hx : Rows x T) (q : Fin 8) (s : Fin 4) :
    extractAt ![0, 0] (backOf x q s) inpos_S1x1_p0_0 = BitVec.ofNat 32 (count (T (rowOf q s)) 0) := by
  unfold backOf bgOf
  pointwise [k1_pay2, k1_pay6]
  rw [IndicatorCount.fold_addi_setWidth_eq_card]
  unfold count
  refine congrArg (fun S : Finset (Fin 1024) => BitVec.ofNat 32 S.card) (Finset.filter_congr fun j _ => ?_)
  have hle := hx.le (rowOf q s) (j / 32) (j % 32)
  rw [hx.at_ (rowOf q s) j, show (0#32) = BitVec.ofNat 32 0 from rfl, word_eq (lt_of_le_of_lt hle (by norm_num)) (by norm_num)]
  exact zero_bin hle

theorem mode_eq (hx : Rows x T) (q : Fin 8) (s : Fin 4) : mode x q s = BitVec.ofNat 32 (modeN (T (rowOf q s))) := by
  have hm := modeN_le (T (rowOf q s))
  rw [modeN_eq] at hm
  unfold mode
  rw [topOf_eq hx, backOf_eq hx, modeN_eq]
  show IntOp.maxsi (Ideal.fptosi 32 _) _ = _
  rw [word_of_ideal (by omega), word_max (by omega) (by omega)]

/-! ## The mean of the modes -/

theorem k1_pay1_apply (a b c d e f g h i s : BitVec 32) (l : Fin 128) {n : ℕ} (hn : n < 2 ^ 31)
    (hs : IntOp.addi (IntOp.addi (IntOp.addi (IntOp.addi (IntOp.addi (IntOp.addi (IntOp.addi (IntOp.addi (IntOp.addi s a) b) c) d) e) f) g) h) i
      = BitVec.ofNat 32 n) :
    (k1_pay1 a b c d e f g h i s : FVec Ideal S1x1x128 .f32) (ix3 0 0 l) = ((n / 32 : ℕ) : EReal) := by
  unfold k1_pay1
  pointwise
  simp only [Scalar.addi, hs]
  have hsel := floor_select .scalar (n := n) _ (IntOp.subi (IntOp.divsi .scalar (BitVec.ofNat 32 n) 32#32) 1#32) (word_sign hn)
    (IntOp.divsi .scalar (BitVec.ofNat 32 n) 32#32)
  refine (congrArg (fun v : BitVec 32 => ((v.toInt : ℝ) : EReal)) (hsel.trans (word_div .scalar hn))).trans ?_
  rw [real_of_word (by omega)]

theorem histOut_apply (hx : Rows x T) (l : Fin 128) : histOut x (ix3 0 0 l) = ((meanN T : ℕ) : EReal) := by
  unfold histOut
  refine k1_pay1_apply _ _ _ _ _ _ _ _ _ _ l (n := ∑ p ∈ Finset.range 32, modeN (T p)) ((sum_modes_le T).trans_lt (by norm_num)) ?_
  unfold sum22 addGroup firstGroup
  simp only [mode_eq hx, Scalar.addi, word_add]
  simp only [Finset.sum_range_succ, Finset.sum_range_zero, zero_add]
  rfl

end Cert.Proof.V
-- ==== Proof.V.PropVal.lean ====
/-
  What the propagation kernel stores, label by label: at row `h`, column `w` of patch `q` of the block, the word of the
  label after 128 steps. Its loop stops at the first trip of eight steps that leaves the sum of the block's labels alone;
  by then no later step changes a label, so the labels are those of all 128 steps.
-/
module

public import proofs.«01_k».proof.Proof.KI.Values
public import proofs.«01_k».proof.Proof.V.Model
public import proofs.«01_k».proof.Proof.V.Words

@[expose] public section

set_option maxRecDepth 16384

noncomputable section

namespace Cert.Proof.V

open Cert.KernelIdeal Cert.KernelIdeal.Gen
open Idealize.ShloMosaic
open Cert.Proof.KI

/-- One step on a block of labels. -/
def stepK (v14 : IVec S1x32x128 32) (v15 : IVec S32x1x128 32) (v4 t : IVec S32x32x128 32) : IVec S32x32x128 32 :=
  muli v4 (maxsi (maxsi
    (maxsi (concatenate S32x32x128 0 [⟨S31x32x128, extractStridedSlice S31x32x128 ![1, 0, 0] t slices_S32x32x128_o1_0_0_S31x32x128⟩, ⟨S1x32x128, v14⟩] concatenates_S31x32x128_S1x32x128_S32x32x128_d0)
      (concatenate S32x32x128 0 [⟨S1x32x128, v14⟩, ⟨S31x32x128, extractStridedSlice S31x32x128 ![0, 0, 0] t slices_S32x32x128_o0_0_0_S31x32x128⟩] concatenates_S1x32x128_S31x32x128_S32x32x128_d0))
    (maxsi (concatenate S32x32x128 1 [⟨S32x31x128, extractStridedSlice S32x31x128 ![0, 1, 0] t slices_S32x32x128_o0_1_0_S32x31x128⟩, ⟨S32x1x128, v15⟩] concatenates_S32x31x128_S32x1x128_S32x32x128_d1)
      (concatenate S32x32x128 1 [⟨S32x1x128, v15⟩, ⟨S32x31x128, extractStridedSlice S32x31x128 ![0, 0, 0] t slices_S32x32x128_o0_0_0_S32x31x128⟩] concatenates_S32x1x128_S32x31x128_S32x32x128_d1))) t)

/-- A trip is eight steps. -/
theorem tripOut_eq (v14 : IVec S1x32x128 32) (v15 : IVec S32x1x128 32) (v4 t : IVec S32x32x128 32) :
    tripOut v14 v15 v4 t = (stepK v14 v15 v4)^[8] t := rfl

/-- The words of a block hold the labellings `T`, one for each of its patches. -/
def Holds (T : Fin 128 → ℕ → ℕ → ℕ) (t : IVec S32x32x128 32) : Prop := ∀ (h w : Fin 32) (q : Fin 128), t (ix3 h w q) = BitVec.ofNat 32 (T q h w)

open Classical in
/-- The words of a block hold the masks `M` as zeros and ones. -/
def HoldsMask (M : Fin 128 → ℕ → ℕ → Prop) (v : IVec S32x32x128 32) : Prop :=
  ∀ (h w : Fin 32) (q : Fin 128), v (ix3 h w q) = BitVec.ofNat 32 (if M q h w then 1 else 0)

section Step

variable {M : Fin 128 → ℕ → ℕ → Prop} {T : Fin 128 → ℕ → ℕ → ℕ} {v4 t : IVec S32x32x128 32}

/-- A step on the words is a step on the labellings. -/
theorem holds_step (hM : ∀ q, Within (M q)) (hv : HoldsMask M v4) (hT : ∀ q, Good (M q) (T q)) (ht : Holds T t) :
    Holds (fun q => step (M q) (T q)) (stepK k0_pay3 k0_pay4 v4 t) := by
  intro h w q
  have hlt : ∀ a b, T q a b < 2 ^ 31 := fun a b => lt_of_le_of_lt ((hT q).le a b) (by norm_num)
  have e₁ : (if h' : h.val < 31 then t (ix3 ⟨1 + h.val, by omega⟩ w q) else 0#32) = BitVec.ofNat 32 (T q (h + 1) w) := by
    split
    · rw [ht]; show BitVec.ofNat 32 (T q (1 + h.val) w.val) = _; rw [Nat.add_comm 1]
    · rw [(hT q).off _ _ fun hm => by have := hM q _ _ hm; omega]
  have e₂ : (if h' : h.val < 1 then 0#32 else t (ix3 ⟨h.val - 1, by omega⟩ w q)) = BitVec.ofNat 32 (if h.val = 0 then 0 else T q (h - 1) w) := by
    by_cases hz : h.val = 0
    · rw [dif_pos (by omega), if_pos hz]
    · rw [dif_neg (by omega), if_neg hz, ht]
  have e₃ : (if h' : w.val < 31 then t (ix3 h ⟨1 + w.val, by omega⟩ q) else 0#32) = BitVec.ofNat 32 (T q h (w + 1)) := by
    split
    · rw [ht]; show BitVec.ofNat 32 (T q h.val (1 + w.val)) = _; rw [Nat.add_comm 1]
    · rw [(hT q).off _ _ fun hm => by have := hM q _ _ hm; omega]
  have e₄ : (if h' : w.val < 1 then 0#32 else t (ix3 h ⟨w.val - 1, by omega⟩ q)) = BitVec.ofNat 32 (if w.val = 0 then 0 else T q h (w - 1)) := by
    by_cases hz : w.val = 0
    · rw [dif_pos (by omega), if_pos hz]
    · rw [dif_neg (by omega), if_neg hz, ht]
  unfold stepK
  pointwise [k0_pay3, k0_pay4]
  rw [e₁, e₂, e₃, e₄, hv, ht]
  have l₂ : (if h.val = 0 then 0 else T q (h - 1) w) < 2 ^ 31 := by
    split
    · norm_num
    · exact hlt _ _
  have l₄ : (if w.val = 0 then 0 else T q h (w - 1)) < 2 ^ 31 := by
    split
    · norm_num
    · exact hlt _ _
  rw [word_max (hlt _ _) l₂, word_max (hlt _ _) l₄, word_max (max_lt (hlt _ _) l₂) (max_lt (hlt _ _) l₄),
    word_max (max_lt (max_lt (hlt _ _) l₂) (max_lt (hlt _ _) l₄)) (hlt _ _), word_mul]
  unfold step nbr
  split <;> simp

theorem holds_iter (hM : ∀ q, Within (M q)) (hv : HoldsMask M v4) (hT : ∀ q, Good (M q) (T q)) (ht : Holds T t) :
    ∀ k, Holds (fun q => (step (M q))^[k] (T q)) ((stepK k0_pay3 k0_pay4 v4)^[k] t)
  | 0 => ht
  | k + 1 => by
    have := holds_step hM hv (fun q => good_iter (hT q) k) (holds_iter hM hv hT ht k)
    simpa only [Function.iterate_succ_apply'] using this

/-- The sum of a block's words is the word of the sum of its labels. -/
theorem sumOf_eq (ht : Holds T t) : sumOf t = BitVec.ofNat 32 (∑ i : S1x32x32x128.Idx, T (i 3) (i 1).val (i 2).val) := by
  unfold sumOf
  pointwise
  rw [Finset.filter_true_of_mem fun i _ => by
    have hs : ∀ a b : S1.Idx, a = b := fun a b => by
      rw [eq_ix1 a, eq_ix1 b]; exact congrArg ix1 (Subsingleton.elim (α := Fin 1) _ _)
    exact hs _ _]
  exact word_sum _ _ _ fun i => ht _ _ _

theorem sum_lt (hT : ∀ q, Good (M q) (T q)) : (∑ i : S1x32x32x128.Idx, T (i 3) (i 1).val (i 2).val) < 2 ^ 32 := by
  refine lt_of_le_of_lt (Finset.sum_le_sum fun i _ => (hT (i 3)).le (i 1).val (i 2).val) ?_
  rw [sum_idx4]
  simp

/-- A trip that leaves the sum of the labels alone leaves every label alone. -/
theorem trip_fixed (hM : ∀ q, Within (M q)) (hv : HoldsMask M v4) (hT : ∀ q, Good (M q) (T q)) (ht : Holds T t)
    (hs : sumOf (tripOut k0_pay3 k0_pay4 v4 t) = sumOf t) : tripOut k0_pay3 k0_pay4 v4 t = t := by
  have ht' : Holds (fun q => (step (M q))^[8] (T q)) (tripOut k0_pay3 k0_pay4 v4 t) := holds_iter hM hv hT ht 8
  have hT' : ∀ q, Good (M q) ((step (M q))^[8] (T q)) := fun q => good_iter (hT q) 8
  rw [sumOf_eq ht, sumOf_eq ht'] at hs
  have hs' := (word_inj (sum_lt hT') (sum_lt hT) hs).symm
  rw [Finset.sum_eq_sum_iff_of_le fun i _ => le_iter (hT (i 3)) (i 1).val (i 2).val 8] at hs'
  funext i
  idx_vars i
  rw [ht', ht]
  exact congrArg (BitVec.ofNat 32) (hs' (ix4 0 i0 i1 i2) (Finset.mem_univ _)).symm

theorem tripOut_holds (hM : ∀ q, Within (M q)) (hv : HoldsMask M v4) (hT : ∀ q, Good (M q) (T q)) (ht : Holds T t) :
    Holds (fun q => (step (M q))^[8] (T q)) (tripOut k0_pay3 k0_pay4 v4 t) := holds_iter hM hv hT ht 8

/-- The loop returns what all its trips would. -/
theorem loopOut_eq (hM : ∀ q, Within (M q)) (hv : HoldsMask M v4) :
    ∀ (k : ℕ) (T : Fin 128 → ℕ → ℕ → ℕ) (t : IVec S32x32x128 32), (∀ q, Good (M q) (T q)) → Holds T t →
      loopOut k0_pay3 k0_pay4 v4 k t (sumOf t) 1#1 = (tripOut k0_pay3 k0_pay4 v4)^[k] t
  | 0, _, _, _, _ => rfl
  | k + 1, T, t, hT, ht => by
    rw [loopOut, if_pos rfl]
    by_cases hs : sumOf (tripOut k0_pay3 k0_pay4 v4 t) = sumOf t
    · have hf := trip_fixed hM hv hT ht hs
      have hc : Scalar.cmpi .ne (sumOf (tripOut k0_pay3 k0_pay4 v4 t)) (sumOf t) = 0#1 := by
        show BitVec.ofBool (sumOf (tripOut k0_pay3 k0_pay4 v4 t) != sumOf t) = _
        rw [hs, bne_self_eq_false]; rfl
      rw [hc, hf, Function.iterate_fixed hf]
      cases k <;> rfl
    · have hc : Scalar.cmpi .ne (sumOf (tripOut k0_pay3 k0_pay4 v4 t)) (sumOf t) = 1#1 := by
        show BitVec.ofBool (sumOf (tripOut k0_pay3 k0_pay4 v4 t) != sumOf t) = _
        rw [bne_iff_ne.mpr hs]; rfl
      rw [hc, loopOut_eq hM hv k _ _ (fun q => good_iter (hT q) 8) (tripOut_holds hM hv hT ht), Function.iterate_succ_apply]

end Step

/-! ## The block the kernel is given -/

/-- The mask of patch `q` of a block: its cells that are not zero. -/
def maskK (v0 : Vec Ideal S32x32x128 .f32) (q : Fin 128) (h w : ℕ) : Prop := ∃ (hh : h < 32) (hw : w < 32), (v0 (ix3 ⟨h, hh⟩ ⟨w, hw⟩ q) : EReal) ≠ 0

theorem within_maskK (v0 : Vec Ideal S32x32x128 .f32) (q : Fin 128) : Within (maskK v0 q) := fun _ _ ⟨hh, hw, _⟩ => ⟨hh, hw⟩

theorem maskK_iff (v0 : Vec Ideal S32x32x128 .f32) (q : Fin 128) (h w : Fin 32) : maskK v0 q h w ↔ (v0 (ix3 h w q) : EReal) ≠ 0 :=
  ⟨fun ⟨_, _, e⟩ => e, fun e => ⟨h.isLt, w.isLt, e⟩⟩

theorem holds_mask (v0 : Vec Ideal S32x32x128 .f32) : HoldsMask (maskK v0) (k0_pay1 v0) := by
  intro h w q
  pointwise [k0_pay1]
  by_cases hm : (v0 (ix3 h w q) : EReal) ≠ 0
  · rw [if_pos ((maskK_iff v0 q h w).mpr hm), decide_eq_true hm]; rfl
  · rw [if_neg fun e => hm ((maskK_iff v0 q h w).mp e), decide_eq_false hm]; rfl

theorem holds_start (v0 : Vec Ideal S32x32x128 .f32) : Holds (fun q => start (maskK v0 q)) (k0_pay2 v0) := by
  intro h w q
  have hp : k0_pay2 v0 (ix3 h w q) = IntOp.muli (k0_pay1 v0 (ix3 h w q))
      (IntOp.subi (IntOp.subi (1024#32) (IntOp.muli (BitVec.ofNat 32 h) 32#32)) (BitVec.ofNat 32 w)) := by
    pointwise [k0_pay2]
  rw [hp, holds_mask v0, word_mul h.val 32, word_sub (a := 1024) (by omega), word_sub (by omega), word_mul]
  show _ = BitVec.ofNat 32 (start (maskK v0 q) h w)
  unfold start
  split
  · rw [Nat.one_mul, Nat.mul_comm 32]
  · rw [Nat.zero_mul]

/-- What the propagation kernel stores. -/
theorem propOut_apply (v0 : Vec Ideal S32x32x128 .f32) (h w : Fin 32) (q : Fin 128) :
    propOut v0 (ix3 h w q) = BitVec.ofNat 32 ((step (maskK v0 q))^[128] (start (maskK v0 q)) h w) := by
  unfold propOut
  rw [loopOut_eq (within_maskK v0) (holds_mask v0) 16 _ _ (fun q => good_start (within_maskK v0 q)) (holds_start v0)]
  rw [show (tripOut k0_pay3 k0_pay4 (k0_pay1 v0))^[16] (k0_pay2 v0) = (stepK k0_pay3 k0_pay4 (k0_pay1 v0))^[128] (k0_pay2 v0) from by
    rw [show tripOut k0_pay3 k0_pay4 (k0_pay1 v0) = (stepK k0_pay3 k0_pay4 (k0_pay1 v0))^[8] from funext fun t => tripOut_eq _ _ _ t, ← Function.iterate_mul]]
  exact holds_iter (within_maskK v0) (holds_mask v0) (fun q => good_start (within_maskK v0 q)) (holds_start v0) 128 h w q

end Cert.Proof.V

end
-- ==== Proof.V.Arrays.lean ====
/-
  What the kernel program returns, in numbers: the label array the first call leaves, the rows the second call reads, the
  means it leaves, and the returned array (`kernel_value`): for each group of 32 patches the mean of the patches' modes,
  rounded down.
-/
module

public import proofs.«01_k».proof.Proof.KI.Run
public import proofs.«01_k».proof.Proof.V.HistVal
public import proofs.«01_k».proof.Proof.V.PropVal
public import Idealize.ShloMosaic.Lib.StableHlo.RunClose
public import Idealize.ShloMosaic.Lib.Claim

@[expose] public section

set_option maxRecDepth 16384

noncomputable section

namespace Cert.Proof.V

open Cert.KernelIdeal Cert.KernelIdeal.Gen
open Idealize.ShloMosaic Idealize.ShloMosaic.TcCoe
open Idealize.ShloMosaic.Pipeline (Dat)
open Cert.Proof.KI

variable (m : (ℓ : Loc nD τ sig) → Buf (Elt Ideal) ℓ)

/-- The patches, numbered in the argument's order. -/
abbrev patches (c : Dev nD) : FVec Ideal S1536x32x32 .f32 :=
  shapeCast S1536x32x32 (m ((c : Thread nD τ).loc main_arg0) : Vec Ideal S2x3x8x32x32x32 .f32) shapeCasts_S2x3x8x32x32x32_S1536x32x32

theorem V1_v1 (c : Dev nD) : V1 m c main_v1 = transpose S32x32x1536 [1, 2, 0] (patches m c) transposes_S1536x32x32_S32x32x1536_1_2_0 := by
  after_results
  rfl

theorem V3_v4 (outs : Outs) (c : Dev nD) : V3 m outs c main_v4
    = shapeCast S1536x1024 (transpose S1536x32x32 [2, 0, 1] (V2 m outs c main_v2 : Vec Ideal S32x32x1536 .i32) transposes_S32x32x1536_S1536x32x32_2_0_1) shapeCasts_S1536x32x32_S1536x1024 := by
  after_results
  rfl

theorem V5_v8 (outs : Outs) (c : Dev nD) : V5 m outs c main_v8
    = shapeCast S2x3x8 (shapeCast S48 (extractStridedSlice S48x1x1 ![0, 0, 0] (V4 m outs c main_v5 : Vec Ideal S48x1x128 .f32) slices_S48x1x128_S48x1x1_0_0_0) shapeCasts_S48x1x1_S48) shapeCasts_S48_S2x3x8 := by
  after_results
  rfl

/-! ## The blocks -/

theorem idx0 : ∀ t : Fin (cfg0 (F := Ideal)).N, win0_0.index t = ![0, 0, t.val] ∧ win0_1.index t = ![0, 0, t.val] :=
  (by decide +kernel : ∀ t : Fin grid0.N, _)
theorem idx1 : ∀ t : Fin (cfg1 (F := Ideal)).N, win1_0.index t = ![t.val, 0] ∧ win1_1.index t = ![t.val, 0, 0] :=
  (by decide +kernel : ∀ t : Fin grid1.N, _)
theorem lt0 (t : Fin (cfg0 (F := Ideal)).N) : t.val < 12 := t.isLt
theorem lt1 (t : Fin (cfg1 (F := Ideal)).N) : t.val < 48 := t.isLt

/-- The patches as a function of number, row and column. -/
abbrev pix (c : Dev nD) (P : Fin 1536) (h w : Fin 32) : EReal := patches m c (ix3 P h w)

theorem iblk0_read (c : Dev nD) (t : Fin (cfg0 (F := Ideal)).N) (y : S32x32x128.Idx) :
    iblk0 m c t y = V1 m c main_v1 ((win0_0.blk t).view.emb y) := by
  blk_simp [iblk0, idx0 t]

theorem emb0_0 (t : Fin (cfg0 (F := Ideal)).N) (h w : Fin 32) (q : Fin 128) :
    (win0_0.blk t).view.emb (ix3 h w q) = (ix3 h w ⟨128 * t.val + q.val, by have := lt0 t; omega⟩ : S32x32x1536.Idx) := by
  blk_ext [idx0 t]

theorem emb0_1 (t : Fin (cfg0 (F := Ideal)).N) (h w : Fin 32) (q : Fin 128) :
    (win0_1.blk t).view.emb (ix3 h w q) = (ix3 h w ⟨128 * t.val + q.val, by have := lt0 t; omega⟩ : S32x32x1536.Idx) := by
  blk_ext [idx0 t]

theorem iblk0_apply (c : Dev nD) (t : Fin (cfg0 (F := Ideal)).N) (h w : Fin 32) (q : Fin 128) :
    iblk0 m c t (ix3 h w q) = pix m c ⟨128 * t.val + q.val, by have := lt0 t; omega⟩ h w := by
  rw [iblk0_read, emb0_0, V1_v1]
  unfold pix
  generalize patches m c = X
  pointwise

theorem maskK_iblk0 (c : Dev nD) (t : Fin (cfg0 (F := Ideal)).N) (q : Fin 128) : maskK (iblk0 m c t) q = maskOf (pix m c) (128 * t.val + q.val) := by
  funext h w
  refine propext ⟨fun ⟨hh, hw, e⟩ => ⟨by have := lt0 t; omega, hh, hw, ?_⟩, fun ⟨_, hh, hw, e⟩ => ⟨hh, hw, ?_⟩⟩
  · rw [iblk0_apply] at e; exact e
  · rw [iblk0_apply]; exact e

/-- The blocks of the result window are whole: none is cut at the array's edge. -/
theorem xin0 (t : Fin (cfg0 (F := Ideal)).grid.N) (y : (((cfg0 (F := Ideal)).win 1).xblock ((cfg0 (F := Ideal)).grid.coords t)).Idx) :
    ((cfg0 (F := Ideal)).win 1).xinj ((cfg0 (F := Ideal)).grid.coords t) y = y := rfl

theorem out0_of (c : Dev nD) (G : S32x32x1536.Idx → BitVec 32)
    (hG : ∀ (t : Fin (cfg0 (F := Ideal)).N) (y : S32x32x128.Idx), propOut (iblk0 m c t) y = G ((win0_1.blk t).view.emb y)) : out0 m c = G := by
  unfold out0
  refine (dat0 m c).arrAt_eq_of_covers 1 G (by decide +kernel) fun t _ y => ?_
  rw [after0_1]
  refine Eq.trans ?_ (hG t y)
  generalize propOut (iblk0 m c t) = f
  exact eq_of_heq ((cast_heq _ _).trans (heq_of_eq (congrArg f (xin0 t y))))

theorem prop_block (c : Dev nD) (t : Fin (cfg0 (F := Ideal)).N) (h w : Fin 32) (q : Fin 128) :
    propOut (iblk0 m c t) (ix3 h w q) = BitVec.ofNat 32 (labels (pix m c) 128 (128 * t.val + q.val) h w) := by
  rw [propOut_apply, maskK_iblk0, ← labels]

/-- The label array the first call leaves. -/
theorem out0_eq (c : Dev nD) : out0 m c = fun i : S32x32x1536.Idx => BitVec.ofNat 32 (labels (pix m c) 128 (i 2) (i 0) (i 1)) := by
  refine out0_of m c _ fun t y => ?_
  idx_vars y
  rw [emb0_1 t y0 y1 y2, prop_block]
  generalize labels (pix m c) 128 = L
  rfl

theorem V3_eq (c : Dev nD) (P : Fin 1536) (j : Fin 1024) :
    V3 m (outsA m) c main_v4 (ix2 P j) = BitVec.ofNat 32 (cell (labels (pix m c) 128 P) j) := by
  rw [V3_v4, show V2 m (outsA m) c main_v2 = out0 m c from (Function.update_self ..).trans (outsA_v2 m 2 c), out0_eq]
  generalize labels (pix m c) 128 = L
  pointwise

/-! ## The second call -/

theorem iblk1_read (c : Dev nD) (t : Fin (cfg1 (F := Ideal)).N) (y : S32x1024.Idx) :
    iblk1 m c t y = V3 m (outsA m) c main_v4 ((win1_0.blk t).view.emb y) := by
  blk_simp [iblk1, idx1 t]

theorem emb1_0 (t : Fin (cfg1 (F := Ideal)).N) (p : Fin 32) (j : Fin 1024) :
    (win1_0.blk t).view.emb (ix2 p j) = (ix2 ⟨32 * t.val + p.val, by have := lt1 t; omega⟩ j : S1536x1024.Idx) := by
  blk_ext [idx1 t]

theorem emb1_1 (t : Fin (cfg1 (F := Ideal)).N) (a b : Fin 1) (l : Fin 128) :
    (win1_1.blk t).view.emb (ix3 a b l) = (ix3 ⟨t.val, lt1 t⟩ b l : S48x1x128.Idx) := by
  blk_ext [idx1 t]

/-- Block `t` of the second call holds the labels of patches `32 t` to `32 t + 31`. -/
theorem rows1 (c : Dev nD) (t : Fin (cfg1 (F := Ideal)).N) : Rows (iblk1 m c t) fun p => labels (pix m c) 128 (32 * t.val + p) where
  at_ p j := by
    rw [iblk1_read, emb1_0]
    exact V3_eq m c ⟨32 * t.val + p.val, by have := lt1 t; omega⟩ j
  le p h w := (good_labels _ _ _).le h w

/-- The blocks of the result window are whole: none is cut at the array's edge. -/
theorem xin1 (t : Fin (cfg1 (F := Ideal)).grid.N) (y : (((cfg1 (F := Ideal)).win 1).xblock ((cfg1 (F := Ideal)).grid.coords t)).Idx) :
    ((cfg1 (F := Ideal)).win 1).xinj ((cfg1 (F := Ideal)).grid.coords t) y = y := rfl

theorem out1_of (c : Dev nD) (G : S48x1x128.Idx → EReal)
    (hG : ∀ (t : Fin (cfg1 (F := Ideal)).N) (y : S1x1x128.Idx), histOut (iblk1 m c t) y = G ((win1_1.blk t).view.emb y)) : out1 m c = G := by
  unfold out1
  refine (dat1 m c).arrAt_eq_of_covers 1 G (by decide +kernel) fun t _ y => ?_
  rw [after1_1]
  refine Eq.trans ?_ (hG t y)
  generalize histOut (iblk1 m c t) = f
  exact eq_of_heq ((cast_heq _ _).trans (heq_of_eq (congrArg f (xin1 t y))))

/-- The means the second call leaves. -/
theorem out1_eq (c : Dev nD) : out1 m c = fun i : S48x1x128.Idx => ((answer (pix m c) (i 0) : ℕ) : EReal) := by
  refine out1_of m c _ fun t y => ?_
  idx_vars y
  rw [emb1_1 t y0 y1 y2]
  obtain rfl : y0 = 0 := Subsingleton.elim (α := Fin 1) _ _
  obtain rfl : y1 = 0 := Subsingleton.elim (α := Fin 1) _ _
  rw [histOut_apply (rows1 m c t)]
  rfl

/-- What the kernel program returns. -/
theorem kernel_value (c : Dev nD) (a : Fin 2) (b : Fin 3) (d : Fin 8) :
    V5 m (outs m) c main_v8 (ix3 a b d) = ((answer (pix m c) (a * 24 + b * 8 + d) : ℕ) : EReal) := by
  rw [V5_v8, show V4 m (outs m) c main_v5 = out1 m c from (Function.update_self ..).trans (outs_v5 m 4 c), out1_eq]
  pointwise

end Cert.Proof.V
-- ==== Proof.V.RefStep.lean ====
/-
  What the reference's loop carries, label by label. Its labels are unique across the whole stack of patches: cell `(h, w)` of
  patch `P` starts at `1024 P + 32 h + w + 1`, and a cell takes the smallest label of its neighbours. Patch by patch this is
  the propagation of `Model` read backwards: `code P t` is the reference's label where the model's is `t`, and the smallest
  code is the code of the largest label (`upd_code`). After `k` trips the carried labels are the codes of the model's labels
  after `k` steps (`carried`).
-/
module

public import proofs.«01_k».proof.Proof.RI.Quiet
public import proofs.«01_k».proof.Proof.V.Model
public import proofs.«01_k».proof.Proof.V.Words
public import Idealize.ShloMosaic.Lib.StableHlo.RunClose

@[expose] public section

set_option maxRecDepth 16384

noncomputable section

namespace Cert.Proof.V.Ref

open Cert.ReferenceIdeal Cert.ReferenceIdeal.Gen Cert.ReferenceIdeal.Value
open Idealize.ShloMosaic Idealize.ShloMosaic.TcCoe Idealize.ShloMosaic.StableHlo

/-! ## Labels and codes -/

/-- The reference's label of a cell of patch `P` whose label in the model is `t`. -/
def code (P t : ℕ) : ℕ := if t = 0 then 0 else 1024 * P + 1025 - t

theorem code_lt {P t : ℕ} (hP : P < 1536) : code P t < 2 ^ 31 := by
  unfold code; split <;> omega

/-- A positive code keeps its distance, and the smaller code belongs to the larger label. -/
theorem code_min {P t s : ℕ} (ht : t ≤ 1024) (hs : s ≤ 1024) (h1 : 1 ≤ t) :
    (if 0 < code P s then min (code P t) (code P s) else code P t) = code P (max t s) := by
  rcases le_total t s with h | h
  · rw [max_eq_right h]; unfold code; split_ifs <;> omega
  · rw [max_eq_left h]; unfold code; split_ifs <;> omega

open Classical in
/-- The word of a truth value. -/
def truth (p : Prop) : BitVec 1 := BitVec.ofBool (decide p)

open Classical in
/-- One neighbour's turn, on words. -/
theorem upd_code {P t s : ℕ} (M : Prop) (hP : P < 1536) (ht : t ≤ 1024) (hs : s ≤ 1024) (h1 : M → 1 ≤ t) :
    Scalar.select (IntOp.andi (truth M) (IntOp.cmpi .sgt (BitVec.ofNat 32 (code P s)) 0#32))
        (IntOp.minsi (BitVec.ofNat 32 (code P t)) (BitVec.ofNat 32 (code P s))) (BitVec.ofNat 32 (code P t))
      = BitVec.ofNat 32 (code P (if M then max t s else t)) := by
  rw [word_gt_zero (code_lt hP), word_min (code_lt hP) (code_lt hP)]
  by_cases hM : M
  · rw [if_pos hM, ← code_min ht hs (h1 hM), truth, decide_eq_true hM]
    by_cases hc : 0 < code P s
    · rw [if_pos hc, decide_eq_true hc]; rfl
    · rw [if_neg hc, decide_eq_false hc]; rfl
  · rw [if_neg hM, truth, decide_eq_false hM]
    rw [show ∀ b : BitVec 1, IntOp.andi (BitVec.ofBool false) b = 0#1 by decide]; rfl

/-! ## One trip -/

/-- The four shifted copies, a zero row or column moved in. -/
def down (l : IVec S1536x32x32 32) : IVec S1536x32x32 32 :=
  pad S1536x32x32 ![0, 0, 0] ![0, 1, 0] ![0, 0, 0] (extractStridedSlice S1536x31x32 ![0, 1, 0] l slices_S1536x32x32_S1536x31x32_0_1_0) (constantI S_ 32 0#32) pads_S1536x31x32_S1536x32x32_000_010_000 h_S_
def up (l : IVec S1536x32x32 32) : IVec S1536x32x32 32 :=
  pad S1536x32x32 ![0, 1, 0] ![0, 0, 0] ![0, 0, 0] (extractStridedSlice S1536x31x32 ![0, 0, 0] l slices_S1536x32x32_S1536x31x32_0_0_0) (constantI S_ 32 0#32) pads_S1536x31x32_S1536x32x32_000_100_000 h_S_
def right (l : IVec S1536x32x32 32) : IVec S1536x32x32 32 :=
  pad S1536x32x32 ![0, 0, 0] ![0, 0, 1] ![0, 0, 0] (extractStridedSlice S1536x32x31 ![0, 0, 1] l slices_S1536x32x32_S1536x32x31_0_0_1) (constantI S_ 32 0#32) pads_S1536x32x31_S1536x32x32_000_000_010 h_S_
def left (l : IVec S1536x32x32 32) : IVec S1536x32x32 32 :=
  pad S1536x32x32 ![0, 0, 1] ![0, 0, 0] ![0, 0, 0] (extractStridedSlice S1536x32x31 ![0, 0, 0] l slices_S1536x32x32_S1536x32x31_0_0_0) (constantI S_ 32 0#32) pads_S1536x32x31_S1536x32x32_000_000_100 h_S_

/-- One neighbour's turn on the stack: `k` the mask, `n` the shifted copy, `l` the labels so far. -/
def upd (k : IVec S1536x32x32 1) (n l : IVec S1536x32x32 32) : IVec S1536x32x32 32 :=
  select (andi k (cmpi .sgt n (broadcastInDim S1536x32x32 ![] bcast_S_S1536x32x32 (constantI S_ 32 0#32)))) (minsi l n) l

/-- One trip. -/
def trip (k : IVec S1536x32x32 1) (l : IVec S1536x32x32 32) : IVec S1536x32x32 32 :=
  upd k (left l) (upd k (right l) (upd k (up l) (upd k (down l) l)))

theorem step_eq (V0 : Valuation τ sig (Elt Ideal)) :
    step_main_v8_2 V0 = trip (V0 (Proc.devRef .tc main_v8_0)) (V0 (Proc.devRef .tc main_v8_2)) := rfl

/-- The stack holds the codes of the labellings `T`, one for each patch. -/
def Codes (T : ℕ → ℕ → ℕ → ℕ) (l : IVec S1536x32x32 32) : Prop := ∀ (P : Fin 1536) (h w : Fin 32), l (ix3 P h w) = BitVec.ofNat 32 (code P (T P h w))

/-- The stack holds the masks `M`. -/
def Masks (M : ℕ → ℕ → ℕ → Prop) (k : IVec S1536x32x32 1) : Prop := ∀ (P : Fin 1536) (h w : Fin 32), k (ix3 P h w) = truth (M P h w)

section Trip

variable {M : ℕ → ℕ → ℕ → Prop} {T : ℕ → ℕ → ℕ → ℕ} {k : IVec S1536x32x32 1} {l n : IVec S1536x32x32 32}

theorem code_zero (P : ℕ) : code P 0 = 0 := if_pos rfl

theorem codes_down (hM : ∀ P, Within (M P)) (hT : ∀ P, Good (M P) (T P)) (hl : Codes T l) :
    Codes (fun P h w => T P (h + 1) w) (down l) := by
  intro P h w
  pointwise [down]
  split
  · rw [hl]; show BitVec.ofNat 32 (code P (T P (1 + h) w)) = _; rw [Nat.add_comm 1]
  · rw [(hT P).off _ _ fun hm => by have := hM P _ _ hm; omega]; rfl

theorem codes_up (hl : Codes T l) : Codes (fun P h w => if h = 0 then 0 else T P (h - 1) w) (up l) := by
  intro P h w
  pointwise [up]
  by_cases hz : h.val = 0
  · rw [dif_neg (by omega), if_pos hz]; rfl
  · rw [dif_pos (by omega), if_neg hz, hl]

theorem codes_right (hM : ∀ P, Within (M P)) (hT : ∀ P, Good (M P) (T P)) (hl : Codes T l) :
    Codes (fun P h w => T P h (w + 1)) (right l) := by
  intro P h w
  pointwise [right]
  split
  · rw [hl]; show BitVec.ofNat 32 (code P (T P h (1 + w))) = _; rw [Nat.add_comm 1]
  · rw [(hT P).off _ _ fun hm => by have := hM P _ _ hm; omega]; rfl

theorem codes_left (hl : Codes T l) : Codes (fun P h w => if w = 0 then 0 else T P h (w - 1)) (left l) := by
  intro P h w
  pointwise [left]
  by_cases hz : w.val = 0
  · rw [dif_neg (by omega), if_pos hz]; rfl
  · rw [dif_pos (by omega), if_neg hz, hl]

open Classical in
/-- One neighbour's turn: on the mask the larger label, off it nothing. -/
theorem codes_upd {S : ℕ → ℕ → ℕ → ℕ} (hk : Masks M k) (hT : ∀ P h w, T P h w ≤ 1024) (hS : ∀ P h w, S P h w ≤ 1024)
    (h1 : ∀ P h w, M P h w → 1 ≤ T P h w) (hn : Codes S n) (hl : Codes T l) :
    Codes (fun P h w => if M P h w then max (T P h w) (S P h w) else T P h w) (upd k n l) := by
  intro P h w
  pointwise [upd]
  rw [hk, hn, hl]
  exact upd_code _ P.isLt (hT _ _ _) (hS _ _ _) (h1 _ _ _)

/-- A trip is a step of the model. -/
theorem codes_trip (hM : ∀ P, Within (M P)) (hk : Masks M k) (hT : ∀ P, Good (M P) (T P)) (hl : Codes T l) :
    Codes (fun P => step (M P) (T P)) (trip k l) := by
  classical
  have hle : ∀ P h w, T P h w ≤ 1024 := fun P => (hT P).le
  have hpos : ∀ P h w, M P h w → 1 ≤ T P h w := fun P => (hT P).pos
  have hu : ∀ P h w, (if h = 0 then 0 else T P (h - 1) w) ≤ 1024 := fun P h w => by split <;> simp [hle]
  have hv : ∀ P h w, (if w = 0 then 0 else T P h (w - 1)) ≤ 1024 := fun P h w => by split <;> simp [hle]
  have hmax : ∀ {A S : ℕ → ℕ → ℕ → ℕ}, (∀ P h w, A P h w ≤ 1024) → (∀ P h w, S P h w ≤ 1024) →
      ∀ P h w, (if M P h w then max (A P h w) (S P h w) else A P h w) ≤ 1024 := fun hA hS P h w => by
    split
    · exact max_le (hA P h w) (hS P h w)
    · exact hA P h w
  have hone : ∀ {A S : ℕ → ℕ → ℕ → ℕ}, (∀ P h w, M P h w → 1 ≤ A P h w) →
      ∀ P h w, M P h w → 1 ≤ (if M P h w then max (A P h w) (S P h w) else A P h w) := fun hA P h w hm => by
    rw [if_pos hm]; exact (hA P h w hm).trans (le_max_left _ _)
  have c₁ := codes_upd hk hle (fun P h w => hle P (h + 1) w) hpos (codes_down hM hT hl) hl
  have l₁ := hmax hle (fun P h w => hle P (h + 1) w)
  have c₂ := codes_upd hk l₁ hu (hone hpos) (codes_up hl) c₁
  have l₂ := hmax l₁ hu
  have c₃ := codes_upd hk l₂ (fun P h w => hle P h (w + 1)) (hone (hone hpos)) (codes_right hM hT hl) c₂
  have l₃ := hmax l₂ (fun P h w => hle P h (w + 1))
  have c₄ := codes_upd hk l₃ hv (hone (hone (hone hpos))) (codes_left hl) c₃
  intro P h w
  refine (c₄ P h w).trans (congrArg (fun t => BitVec.ofNat 32 (code P t)) ?_)
  by_cases hm : M P h w
  · simp only [step, nbr, hm, if_true]; omega
  · simp only [step, hm, if_false]; exact (hT P).off _ _ hm

end Trip

/-! ## The loop -/

variable (m : (ℓ : Loc nD τ sig) → Buf (Elt Ideal) ℓ)

/-- The patches, numbered in the argument's order. -/
abbrev patches (c : Dev nD) : FVec Ideal S1536x32x32 .f32 :=
  shapeCast S1536x32x32 (m ((c : Thread nD τ).loc main_arg0) : Vec Ideal S2x3x8x32x32x32 .f32) shapeCasts_S2x3x8x32x32x32_S1536x32x32
/-- The patches as a function of number, row and column. -/
abbrev pix (c : Dev nD) (P : Fin 1536) (h w : Fin 32) : EReal := patches m c (ix3 P h w)

/-- The mask and the labels before the loop. -/
def mask0 (A : FVec Ideal S2x3x8x32x32x32 .f32) : IVec S1536x32x32 1 :=
  shapeCast S1536x32x32 (cmpf .une A (broadcastInDim S2x3x8x32x32x32 ![] bcast_S_S2x3x8x32x32x32 (constant S_ .f32 0x00000000#32))) shapeCasts_S2x3x8x32x32x32_S1536x32x32
def start0 (A : FVec Ideal S2x3x8x32x32x32 .f32) : IVec S1536x32x32 32 :=
  select (mask0 A) (shapeCast S1536x32x32 (addi (broadcastInDim S1572864 ![] bcast_S_S1572864 (constantI S_ 32 1#32)) (iotaInDim S1572864 32 0)) shapeCasts_S1572864_S1536x32x32)
    (broadcastInDim S1536x32x32 ![] bcast_S_S1536x32x32 (constantI S_ 32 0#32))

theorem entry_mask (c : Dev nD) : entryContents preI m c (Proc.devRef .tc main_v8_0) = mask0 (m ((c : Thread nD τ).loc main_arg0) : Vec Ideal S2x3x8x32x32x32 .f32) := by
  simp only [entryContents, afterL, List.foldl, preI]
  after_results
  rfl

theorem entry_start (c : Dev nD) : entryContents preI m c (Proc.devRef .tc main_v8_2) = start0 (m ((c : Thread nD τ).loc main_arg0) : Vec Ideal S2x3x8x32x32x32 .f32) := by
  simp only [entryContents, afterL, List.foldl, preI]
  after_results
  rfl

open Classical in
theorem mask0_apply (A : FVec Ideal S2x3x8x32x32x32 .f32) (P : Fin 1536) (h w : Fin 32) :
    mask0 A (ix3 P h w) = truth ((shapeCast S1536x32x32 A shapeCasts_S2x3x8x32x32x32_S1536x32x32 (ix3 P h w) : EReal) ≠ 0) := by
  unfold truth
  pointwise [mask0]

theorem start0_apply (A : FVec Ideal S2x3x8x32x32x32 .f32) (P : Fin 1536) (h w : Fin 32) :
    start0 A (ix3 P h w) = Scalar.select (mask0 A (ix3 P h w)) (IntOp.addi 1#32 (BitVec.ofNat 32 (P * 1024 + h * 32 + w))) 0#32 := by
  pointwise [start0]

theorem masks0 (c : Dev nD) : Masks (maskOf (pix m c)) (mask0 (m ((c : Thread nD τ).loc main_arg0) : Vec Ideal S2x3x8x32x32x32 .f32)) := by
  intro P h w
  rw [mask0_apply]
  exact congrArg truth (propext (maskOf_iff (pix m c) P h w).symm)

open Classical in
theorem codes0 (c : Dev nD) : Codes (labels (pix m c) 0) (start0 (m ((c : Thread nD τ).loc main_arg0) : Vec Ideal S2x3x8x32x32x32 .f32)) := by
  intro P h w
  rw [start0_apply, masks0 m c P h w, show (1#32) = BitVec.ofNat 32 1 from rfl, word_add]
  show _ = BitVec.ofNat 32 (code P (start (maskOf (pix m c) P) h w))
  by_cases hm : maskOf (pix m c) P h w
  · rw [start, if_pos hm, truth, decide_eq_true hm]
    refine congrArg (BitVec.ofNat 32) ?_
    have := h.isLt
    have := w.isLt
    unfold code; split <;> omega
  · rw [start, if_neg hm, truth, decide_eq_false hm]; rfl

theorem loop_mask (c : Dev nD) : ∀ k, STEP^[k] (entryContents preI m c) (Proc.devRef .tc main_v8_0) = entryContents preI m c (Proc.devRef .tc main_v8_0)
  | 0 => rfl
  | k + 1 => by rw [Function.iterate_succ_apply', STEP_main_v8_0, loop_mask c k]

/-- After `k` trips the carried labels are the codes of the model's labels after `k` steps. -/
theorem carried (c : Dev nD) : ∀ k, Codes (labels (pix m c) k) (STEP^[k] (entryContents preI m c) (Proc.devRef .tc main_v8_2))
  | 0 => by
    show Codes _ (entryContents preI m c (Proc.devRef .tc main_v8_2))
    rw [entry_start]; exact codes0 m c
  | k + 1 => by
    rw [Function.iterate_succ_apply', STEP_main_v8_2, step_eq, loop_mask, entry_mask]
    have h := codes_trip (fun P => within_maskOf (pix m c) P) (masks0 m c) (fun P => good_labels (pix m c) k P) (carried c k)
    simp only [← labels_succ] at h
    exact h

end Cert.Proof.V.Ref
-- ==== Proof.V.RefVal.lean ====
/-
  What the reference returns, in numbers: for each group of 32 patches the mean of the patches' modes, rounded down
  (`reference_value`). Its histogram runs over the bins 0 to 1024 of each patch, a patch's labels first moved back to
  1 to 1024; the label of a cell is then the bin of its label in the model.
-/
module

public import proofs.«01_k».proof.Proof.V.RefStep
public import Idealize.ShloMosaic.Lib.IndicatorCount

@[expose] public section

set_option maxRecDepth 16384

noncomputable section

namespace Cert.Proof.V.Ref

open Cert.ReferenceIdeal Cert.ReferenceIdeal.Gen Cert.ReferenceIdeal.Value
open Idealize.ShloMosaic Idealize.ShloMosaic.TcCoe Idealize.ShloMosaic.StableHlo

/-! ## The stretch after the loop, in five parts -/

/-- The labels of each patch, moved back to 0 to 1024. -/
def localOf (l : IVec S1536x32x32 32) : IVec S1536x1024 32 :=
  select (cmpi .sgt (shapeCast S1536x1024 l shapeCasts_S1536x32x32_S1536x1024) (broadcastInDim S1536x1024 ![] bcast_S_S1536x1024 (constantI S_ 32 0#32)))
    (subi (shapeCast S1536x1024 l shapeCasts_S1536x32x32_S1536x1024)
      (broadcastInDim S1536x1024 ![0, 1] bcast_S1536x1_S1536x1024_0_1 (broadcastInDim S1536x1 ![0] bcast_S1536_S1536x1_0
        (muli (iotaInDim S1536 32 0) (broadcastInDim S1536 ![] bcast_S_S1536 (constantI S_ 32 1024#32))))))
    (broadcastInDim S1536x1024 ![] bcast_S_S1536x1024 (constantI S_ 32 0#32))

/-- The histogram of each patch. -/
def histOf (v : IVec S1536x1024 32) : IVec S1536x1025 32 :=
  Host.reduce IntOp.addi
    (extui 32 (cmpi .eq
      (broadcastInDim S1536x1024x1025 ![0, 1, 2] bcast_S1536x1024x1_S1536x1024x1025_0_1_2 (broadcastInDim S1536x1024x1 ![0, 1] bcast_S1536x1024_S1536x1024x1_0_1 v))
      (broadcastInDim S1536x1024x1025 ![0, 1, 2] bcast_S1x1x1025_S1536x1024x1025_0_1_2 (broadcastInDim S1x1x1025 ![2] bcast_S1025_S1x1x1025_2 (iotaInDim S1025 32 0)))) natLt_1_32)
    (constantI S_ 32 0#32) reducesTo_S1536x1024x1025_S1536x1025_d1 h_S_

/-- The largest count of each patch. -/
def modesOf (v : IVec S1536x1025 32) : IVec S1536 32 := Host.reduce IntOp.maxsi v (constantI S_ 32 2147483648#32) reducesTo_S1536x1025_S1536_d1 h_S_

/-- The sums over the groups of 32 patches. -/
def sumsOf (v : IVec S1536 32) : IVec S2x3x8 32 :=
  Host.reduce IntOp.addi (shapeCast S2x3x8x32 v shapeCasts_S1536_S2x3x8x32) (constantI S_ 32 0#32) reducesTo_S2x3x8x32_S2x3x8_d3 h_S_

/-- A thirty-second, rounded down. -/
def floorOf (s : IVec S2x3x8 32) : IVec S2x3x8 32 :=
  select (andi (cmpi .ne (signi s) (broadcastInDim S2x3x8 ![] bcast_S_S2x3x8 (signi (constantI S_ 32 32#32))))
      (cmpi .ne (Host.remsi s (broadcastInDim S2x3x8 ![] bcast_S_S2x3x8 (constantI S_ 32 32#32))) (broadcastInDim S2x3x8 ![] bcast_S_S2x3x8 (constantI S_ 32 0#32))))
    (subi (Host.divsi s (broadcastInDim S2x3x8 ![] bcast_S_S2x3x8 (constantI S_ 32 32#32))) (broadcastInDim S2x3x8 ![] bcast_S_S2x3x8 (constantI S_ 32 1#32)))
    (Host.divsi s (broadcastInDim S2x3x8 ![] bcast_S_S2x3x8 (constantI S_ 32 32#32)))

theorem out_eq (V0 : Valuation τ sig (Elt Ideal)) :
    out_main_v31 V0 = (sitofp .f32 (floorOf (sumsOf (modesOf (histOf (localOf (V0 (Proc.devRef .tc main_v8_2))))))) : FVec Ideal S2x3x8 .f32) := rfl

/-! ## Each part in numbers -/

variable {T : ℕ → ℕ → ℕ → ℕ}

theorem localOf_apply {l : IVec S1536x32x32 32} (hT : ∀ P h w, T P h w ≤ 1024) (hl : Codes T l) (P : Fin 1536) (j : Fin 1024) :
    localOf l (ix2 P j) = BitVec.ofNat 32 (bin (cell (T P) j)) := by
  have hc : l (ix3 P ⟨j.val / 32, by omega⟩ ⟨j.val % 32, by omega⟩) = BitVec.ofNat 32 (code P (cell (T P) j)) := hl P _ _
  have hle : cell (T P) j ≤ 1024 := hT _ _ _
  pointwise [localOf]
  rw [hc, word_gt_zero (code_lt P.isLt), show (1024#32) = BitVec.ofNat 32 1024 from rfl, word_mul]
  generalize cell (T P) j = t at hle ⊢
  have hP := P.isLt
  by_cases h : t = 0
  · subst h; rw [code_zero]; rfl
  · have e : code P t = 1024 * P + 1025 - t := if_neg h
    rw [decide_eq_true (by omega : 0 < code P t), word_sub (by omega), bin, if_neg h]
    show BitVec.ofNat 32 _ = _
    refine congrArg (BitVec.ofNat 32) ?_
    omega

theorem bin_le (t : ℕ) : bin t ≤ 1024 := by unfold bin; split <;> omega

theorem histOf_apply {v : IVec S1536x1024 32} (P : Fin 1536) (b : Fin 1025) (hv : ∀ j : Fin 1024, v (ix2 P j) = BitVec.ofNat 32 (bin (cell (T P) j))) :
    histOf v (ix2 P b) = BitVec.ofNat 32 (count (T P) b) := by
  pointwise [histOf]
  rw [IndicatorCount.fold_addi_setWidth_eq_card]
  unfold count
  refine congrArg (fun S : Finset (Fin 1024) => BitVec.ofNat 32 S.card) (Finset.filter_congr fun j _ => ?_)
  have := bin_le (cell (T P) j)
  have := b.isLt
  rw [hv, word_eq (by omega) (by omega)]

theorem modesOf_apply {v : IVec S1536x1025 32} (P : Fin 1536) (hv : ∀ b : Fin 1025, v (ix2 P b) = BitVec.ofNat 32 (count (T P) b)) :
    modesOf v (ix1 P) = BitVec.ofNat 32 (modeN (T P)) := by
  pointwise [modesOf]
  exact word_sup _ Finset.univ_nonempty _ _ hv fun b => (count_le _ _).trans_lt (by norm_num)

theorem sumsOf_apply {v : IVec S1536 32} (hv : ∀ P : Fin 1536, v (ix1 P) = BitVec.ofNat 32 (modeN (T P))) (a : Fin 2) (b : Fin 3) (d : Fin 8) :
    sumsOf v (ix3 a b d) = BitVec.ofNat 32 (∑ p ∈ Finset.range 32, modeN (T (32 * (a * 24 + b * 8 + d) + p))) := by
  pointwise [sumsOf]
  rw [← Fin.sum_univ_eq_sum_range (fun p => modeN (T (32 * (a * 24 + b * 8 + d) + p)))]
  refine word_sum _ _ _ fun p => ?_
  rw [hv]
  refine congrArg (fun P => BitVec.ofNat 32 (modeN (T P))) ?_
  show a.val * 768 + b.val * 256 + d.val * 32 + p.val = _
  omega

theorem floorOf_apply {s : IVec S2x3x8 32} (i : S2x3x8.Idx) {n : ℕ} (hn : n < 2 ^ 31) (hs : s i = BitVec.ofNat 32 n) :
    floorOf s i = BitVec.ofNat 32 (n / 32) := by
  idx_vars i
  pointwise [floorOf]
  rw [hs]
  have hsign : 0 < n → (if BitVec.ofNat 32 n = 0 then 0 else if (BitVec.ofNat 32 n).msb = true then -1 else 1) = 1#32 := fun h => by
    have hz : BitVec.ofNat 32 n ≠ 0 := fun e => absurd (word_inj (b := 0) (by omega) (by norm_num) e) (by omega)
    have hm : (BitVec.ofNat 32 n).msb = false := by rw [BitVec.msb_eq_false_iff_two_mul_lt, BitVec.toNat_ofNat]; omega
    rw [if_neg hz, hm]; rfl
  exact (floor_select .host (n := n) _ (IntOp.subi (IntOp.divsi .host (BitVec.ofNat 32 n) 32#32) 1#32) hsign
    (IntOp.divsi .host (BitVec.ofNat 32 n) 32#32)).trans (word_div .host hn)

/-! ## The returned array -/

variable (m : (ℓ : Loc nD τ sig) → Buf (Elt Ideal) ℓ)

/-- What the reference returns. -/
theorem reference_value (c : Dev nD) (a : Fin 2) (b : Fin 3) (d : Fin 8) :
    out_main_v31 (STEP^[128] (entryContents preI m c)) (ix3 a b d) = ((answer (pix m c) (a * 24 + b * 8 + d) : ℕ) : EReal) := by
  have hl := carried m c 128
  rw [out_eq]
  generalize STEP^[128] (entryContents preI m c) (Proc.devRef .tc main_v8_2) = l at hl ⊢
  have hs := sumsOf_apply (fun P => modesOf_apply P fun b => histOf_apply P b (localOf_apply (fun P => (good_labels (pix m c) 128 P).le) hl P)) a b d
  have hf := floorOf_apply _ ((sum_modes_le fun p => labels (pix m c) 128 (32 * (a * 24 + b * 8 + d) + p)).trans_lt (by norm_num)) hs
  show (((floorOf _ _ : BitVec 32).toInt : ℝ) : EReal) = _
  rw [hf, real_of_word ((Nat.div_le_self _ _).trans_lt ((sum_modes_le _).trans_lt (by norm_num)))]
  rfl

end Cert.Proof.V.Ref
-- ==== Proof.V.Agree.lean ====
/-
  The two programs return the same array: run from memories with the same argument, each leaves, for every group of 32
  patches, the number `answer` of the argument's patches.
-/
module

public import proofs.«01_k».proof.Defs
public import proofs.«01_k».proof.Proof.V.Arrays
public import proofs.«01_k».proof.Proof.V.RefVal

@[expose] public section

set_option maxRecDepth 16384

noncomputable section

namespace Cert.Proof.V

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Equal arguments hold equal patches. -/
theorem pix_eq (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Ref.pix m' c = pix m c := by
  funext P y x
  unfold Ref.pix Ref.patches
  rw [h]

/-- Equal arguments give equal results. -/
theorem results_eq (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Value.out_main_v31 (Cert.ReferenceIdeal.Value.STEP^[128] (StableHlo.entryContents Cert.ReferenceIdeal.Value.preI m' c))
      = Cert.KernelIdeal.Gen.V5 m (KI.outs m) c Cert.KernelIdeal.main_v8 := by
  refine funext fun (i : Cert.KernelIdeal.S2x3x8.Idx) => ?_
  idx_vars i
  refine (Ref.reference_value m' c i0 i1 i2).trans ?_
  rw [pix_eq m m' c h]
  exact (kernel_value m c i0 i1 i2).symm

theorem algebraic : letI := Cert.KernelIdeal.Gen.facts; letI := Cert.ReferenceIdeal.Gen.facts; Cert.algebraic_KernelIdeal_ReferenceIdeal :=
  fun m g m' g' _ hargs => ⟨fun c => Cert.KernelIdeal.Gen.V5 m (KI.outs m) c Cert.KernelIdeal.main_v8,
    (θ_run _ _ _).mono (fun _ h c => ⟨(h.1 c).2, (h.1 c).1⟩) (KI.run_main m g),
    (θ_run _ _ _).mono (fun _ h c => ⟨(h.1 c).1.trans (results_eq m m' c (hargs c)), (h.1 c).2⟩) (RI.run_quiet m' g')⟩

end Cert.Proof.V

end
-- ==== Proof.lean ====
/-
  The proof of `Cert.Claim`: the three frames from the run theorems (`K.run_main`, `KI.run_main`, `RI.run_quiet`), the equality
  of the two programs' results from `V.algebraic`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.RI.Quiet
public import proofs.«01_k».proof.Proof.V.Agree
public import Idealize.ShloMosaic.Adequacy
public import Idealize.ShloMosaic.Init

@[expose] public section

noncomputable section

namespace Cert.Proof

open Idealize.ShloMosaic Idealize.SL.Sem Cert.Kernel

/-- The kernel's frame at the bit-exact instance. -/
theorem frame_K : letI := Cert.Kernel.Gen.facts; Cert.quiescent_Kernel := fun m g _ =>
  (θ_run _ _ _).mono (fun _ h => ⟨fun c => (h.1 c).1, h.2⟩) (K.run_main m g)

/-- The idealized kernel's frame. -/
theorem frame_KI : letI := Cert.KernelIdeal.Gen.facts; Cert.quiescent_KernelIdeal := fun m g _ =>
  (θ_run _ _ _).mono (fun _ h => ⟨fun c => (h.1 c).1, h.2⟩) (KI.run_main m g)

/-- The reference's frame. -/
theorem frame_RI : letI := Cert.ReferenceIdeal.Gen.facts; Cert.quiescent_ReferenceIdeal := fun m g _ =>
  (θ_run _ _ _).mono (fun _ h => ⟨fun c => (h.1 c).2, h.2⟩) (RI.run_quiet m g)

theorem claim : Cert.Claim :=
  ⟨Cert.Kernel.Gen.facts, Cert.KernelIdeal.Gen.facts, Cert.ReferenceIdeal.Gen.facts, frame_K, frame_KI, frame_RI, trivial, V.algebraic⟩

end Cert.Proof

end
